-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S3x1024x8192 : Shape := ⟨3, ![3, 1024, 8192]⟩
abbrev S512x8192 : Shape := ⟨2, ![512, 8192]⟩
abbrev S2 : Shape := ⟨1, ![2]⟩
abbrev S6 : Shape := ⟨1, ![6]⟩
abbrev S_ : Shape := ⟨0, ![]⟩
abbrev S1 : Shape := ⟨1, ![1]⟩
abbrev S1x1024x8192 : Shape := ⟨3, ![1, 1024, 8192]⟩
abbrev S1x512x8192 : Shape := ⟨3, ![1, 512, 8192]⟩

abbrev nBuf : Space → Nat
  | .hbm => 25
  | .vmem => 2
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x8192, .f32⟩
  | .hbm, ⟨3, _⟩ => ⟨S4096x8192, .bf16⟩
  | .hbm, ⟨4, _⟩ => ⟨S4096x8192, .bf16⟩
  | .hbm, ⟨5, _⟩ => ⟨S3x1024x8192, .bf16⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .f32⟩
  | .local _ .vmem, ⟨0, _⟩ => ⟨S512x8192, .bf16⟩
  | .local _ .vmem, ⟨1, _⟩ => ⟨S512x8192, .bf16⟩
  | _, _ => ⟨S4096x1024, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_21 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v34 : BitVec 32 := Scalar.subi v2 c0_i32_21
  let c4_i32_22 : BitVec 32 := 4#32
  let c0_i32_23 : BitVec 32 := 0#32
  let v35 : BitVec 1 := Scalar.cmpi .eq c4_i32_22 c0_i32_23
  let c1_i32_24 : BitVec 32 := 1#32
  let v36 : BitVec 32 := Scalar.select v35 c1_i32_24 c4_i32_22
  let v37 : BitVec 32 := Scalar.remsi v34 v36
  let c0_i32_26 : BitVec 32 := 0#32
  let v39 : BitVec 1 := Scalar.cmpi .slt v37 c0_i32_26
  let c0_i32_27 : BitVec 32 := 0#32
  let v40 : BitVec 1 := Scalar.cmpi .slt v36 c0_i32_27
  let v41 : BitVec 1 := Scalar.xori v39 v40
  let c0_i32_25 : BitVec 32 := 0#32
  let v38 : BitVec 1 := Scalar.cmpi .ne v37 c0_i32_25
  let v42 : BitVec 1 := Scalar.andi v41 v38
  let v43 : BitVec 32 := Scalar.addi v37 v36
  let v44 : BitVec 32 := Scalar.select v42 v43 v37
  let c1024_i32 : BitVec 32 := 1024#32
  let v45 : BitVec 32 := Scalar.muli v44 c1024_i32
  let c0_i32_35 : BitVec 32 := 0#32
  ![v45.toNat, 0]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31 : BitVec 32 := 1#32
  let v46 : BitVec 32 := Scalar.muli v24 c1_i32_31
  let v47 : BitVec 32 := Scalar.addi c0_i32_32 v46
  v47.toNat
def k0_off2 (d0 : Dev nD) (c0_i32_51 : BitVec 32) (c0_i32_60 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v67 : BitVec 32 := Scalar.subi v2 c0_i32_51
  let c1_i32_52 : BitVec 32 := 1#32
  let v68 : BitVec 32 := Scalar.subi v67 c1_i32_52
  let c4_i32_53 : BitVec 32 := 4#32
  let c0_i32_54 : BitVec 32 := 0#32
  let v69 : BitVec 1 := Scalar.cmpi .eq c4_i32_53 c0_i32_54
  let c1_i32_55 : BitVec 32 := 1#32
  let v70 : BitVec 32 := Scalar.select v69 c1_i32_55 c4_i32_53
  let v71 : BitVec 32 := Scalar.remsi v68 v70
  let c0_i32_57 : BitVec 32 := 0#32
  let v73 : BitVec 1 := Scalar.cmpi .slt v71 c0_i32_57
  let c0_i32_58 : BitVec 32 := 0#32
  let v74 : BitVec 1 := Scalar.cmpi .slt v70 c0_i32_58
  let v75 : BitVec 1 := Scalar.xori v73 v74
  let c0_i32_56 : BitVec 32 := 0#32
  let v72 : BitVec 1 := Scalar.cmpi .ne v71 c0_i32_56
  let v76 : BitVec 1 := Scalar.andi v75 v72
  let v77 : BitVec 32 := Scalar.addi v71 v70
  let v78 : BitVec 32 := Scalar.select v76 v77 v71
  let c1024_i32_59 : BitVec 32 := 1024#32
  let v79 : BitVec 32 := Scalar.muli v78 c1024_i32_59
  let v80 : BitVec 32 := Scalar.addi v79 c0_i32_60
  let c0_i32_62 : BitVec 32 := 0#32
  ![v80.toNat, 0]
def k0_dev4 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_116 : BitVec 32 := 1#32
  let v153 : BitVec 32 := Scalar.muli v24 c1_i32_116
  let v154 : BitVec 32 := Scalar.addi c0_i32_117 v153
  v154.toNat
def k0_dev5 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_203 : BitVec 32 := 1#32
  let v260 : BitVec 32 := Scalar.muli v24 c1_i32_203
  let v261 : BitVec 32 := Scalar.addi c0_i32_204 v260
  v261.toNat
def k0_off3 (d0 : Dev nD) (c0_i32_280 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_279 : BitVec 32 := 1#32
  let v355 : BitVec 32 := Scalar.addi v2 c1_i32_279
  let v356 : BitVec 32 := Scalar.subi v355 c0_i32_280
  let c4_i32_281 : BitVec 32 := 4#32
  let c0_i32_282 : BitVec 32 := 0#32
  let v357 : BitVec 1 := Scalar.cmpi .eq c4_i32_281 c0_i32_282
  let c1_i32_283 : BitVec 32 := 1#32
  let v358 : BitVec 32 := Scalar.select v357 c1_i32_283 c4_i32_281
  let v359 : BitVec 32 := Scalar.remsi v356 v358
  let c0_i32_285 : BitVec 32 := 0#32
  let v361 : BitVec 1 := Scalar.cmpi .slt v359 c0_i32_285
  let c0_i32_286 : BitVec 32 := 0#32
  let v362 : BitVec 1 := Scalar.cmpi .slt v358 c0_i32_286
  let v363 : BitVec 1 := Scalar.xori v361 v362
  let c0_i32_284 : BitVec 32 := 0#32
  let v360 : BitVec 1 := Scalar.cmpi .ne v359 c0_i32_284
  let v364 : BitVec 1 := Scalar.andi v363 v360
  let v365 : BitVec 32 := Scalar.addi v359 v358
  let v366 : BitVec 32 := Scalar.select v364 v365 v359
  let c1024_i32_288 : BitVec 32 := 1024#32
  let v368 : BitVec 32 := Scalar.muli v366 c1024_i32_288
  let c0_i32_292 : BitVec 32 := 0#32
  ![v368.toNat, 0]
def k0_dev6 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_290 : BitVec 32 := 1#32
  let v369 : BitVec 32 := Scalar.muli v24 c1_i32_290
  let v370 : BitVec 32 := Scalar.addi c0_i32_291 v369
  v370.toNat
def k0_dev7 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_317 : BitVec 32 := 1#32
  let v401 : BitVec 32 := Scalar.muli v24 c1_i32_317
  let v402 : BitVec 32 := Scalar.addi c0_i32_318 v401
  v402.toNat
def k0_dev8 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_343 : BitVec 32 := 1#32
  let v433 : BitVec 32 := Scalar.muli v24 c1_i32_343
  let v434 : BitVec 32 := Scalar.addi c0_i32_344 v433
  v434.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Devices.lean ====
/- The ring of four devices: each device's two neighbours, which block of rows it handles at each step, and that the
   kernel's own integer arithmetic computes exactly these. -/
module

public import proofs.«01_k».proof.Proof.Gen.KernelIdeal

@[expose] public section

namespace Cert.KernelIdeal.Run

open Idealize.ShloMosaic Cert.KernelIdeal.Gen

/-- The device to the right on the ring. -/
def nxt (c : Dev nD) : Dev nD := ⟨(c.val + 1) % 4, Nat.mod_lt _ (by decide)⟩
/-- The device to the left on the ring. -/
def prv (c : Dev nD) : Dev nD := ⟨(c.val + 3) % 4, Nat.mod_lt _ (by decide)⟩

/-- The block of rows device `c` sends at step `k`: it starts from its own and goes down by one, around the ring. -/
def bk (c : Dev nD) (k : ℕ) : Fin 4 := ⟨(c.val + 3 * k) % 4, Nat.mod_lt _ (by decide)⟩

theorem nxt_prv (c : Dev nD) : nxt (prv c) = c := by revert c; decide
theorem prv_nxt (c : Dev nD) : prv (nxt c) = c := by revert c; decide
theorem nxt_nxt (c : Dev nD) : nxt (nxt c) = prv (prv c) := by revert c; decide
theorem prv3 (c : Dev nD) : prv (prv (prv c)) = nxt c := by revert c; decide
theorem nxt_inj {c d : Dev nD} (h : nxt c = nxt d) : c = d := by rw [← prv_nxt c, h, prv_nxt]
theorem prv_inj {c d : Dev nD} (h : prv c = prv d) : c = d := by rw [← nxt_prv c, h, nxt_prv]
theorem nxt_ne (c : Dev nD) : nxt c ≠ c := by revert c; decide

/-- The block a device sends at a step is the one its left neighbour sent one step earlier. -/
theorem bk_succ (c : Dev nD) (k : ℕ) : bk c (k + 1) = bk (prv c) k := by
  apply Fin.ext; simp only [bk, prv]; omega
theorem bk_prv (c : Dev nD) (k : ℕ) : bk (prv c) k = bk c (k + 1) := (bk_succ c k).symm
theorem bk_add_four (c : Dev nD) (k : ℕ) : bk c (k + 4) = bk c k := by
  apply Fin.ext; simp only [bk]; omega
theorem bk_nxt_succ (c : Dev nD) (k : ℕ) : bk (nxt c) (k + 1) = bk c k := by rw [bk_succ, prv_nxt]

/-- The four blocks of the array are the four a device meets at steps 0 to 3. -/
theorem bk_bijective (c : Dev nD) : Function.Bijective fun k : Fin 4 => bk c k := by revert c; decide

/-! ## The kernel's own arithmetic -/

theorem dev1_eq (d : Dev nD) : (⟨k0_dev1 d, k0_dev1_lt d⟩ : Dev nD) = prv d := by revert d; decide +kernel
theorem dev2_eq (d : Dev nD) : (⟨k0_dev2 d, k0_dev2_lt d⟩ : Dev nD) = nxt d := by revert d; decide +kernel
theorem dev3_eq (d : Dev nD) : (⟨k0_dev3 d, k0_dev3_lt d⟩ : Dev nD) = nxt d := by revert d; decide +kernel
theorem dev4_eq (d : Dev nD) : (⟨k0_dev4 d, k0_dev4_lt d⟩ : Dev nD) = nxt d := by revert d; decide +kernel
theorem dev5_eq (d : Dev nD) : (⟨k0_dev5 d, k0_dev5_lt d⟩ : Dev nD) = nxt d := by revert d; decide +kernel
theorem dev6_eq (d : Dev nD) : (⟨k0_dev6 d, k0_dev6_lt d⟩ : Dev nD) = nxt d := by revert d; decide +kernel
theorem dev7_eq (d : Dev nD) : (⟨k0_dev7 d, k0_dev7_lt d⟩ : Dev nD) = nxt d := by revert d; decide +kernel
theorem dev8_eq (d : Dev nD) : (⟨k0_dev8 d, k0_dev8_lt d⟩ : Dev nD) = nxt d := by revert d; decide +kernel

/-- Where block `b` begins in the result buffer. -/
abbrev blkOff (b : Fin 4) : Fin 2 → ℕ := ![1024 * b.val, 0]
/-- Where half `j` of block `b` begins. -/
abbrev halfOff (b : Fin 4) (j : Fin 2) : Fin 2 → ℕ := ![1024 * b.val + 512 * j.val, 0]

theorem off1_eq (d : Dev nD) (s : Fin 3) : k0_off1 d (BitVec.ofNat 32 s.val) = blkOff (bk d s.val) := by
  revert d s; decide +kernel
theorem off2_eq (d : Dev nD) (s : Fin 3) (j : Fin 2) :
    k0_off2 d (BitVec.ofNat 32 s.val) (BitVec.ofNat 32 (512 * j.val)) = halfOff (bk d (s.val + 1)) j := by
  revert d s j; decide +kernel
theorem off3_eq (d : Dev nD) (t : Fin 3) : k0_off3 d (BitVec.ofNat 32 t.val) = blkOff (bk d (t.val + 3)) := by
  revert d t; decide +kernel

end Cert.KernelIdeal.Run
-- ==== Proof.Blocks.lean ====
/- The buffers of the kernel, cut into the pieces it moves: the four row blocks of the result, the three receive slots,
   and the two halves of each; what holding such a piece means; and how the halves make up the whole piece. -/
module

public import proofs.«01_k».proof.Proof.Devices
public import proofs.«01_k».proof.Proof.Gen.KernelIdeal.Frame
public import Idealize.ShloMosaic.Lib.Rounds
public import Idealize.ShloMosaic.Lib.Transfers
public import Idealize.ShloMosaic.Lib.ValueLayout

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]

/-! ## The resource algebra -/

/-- The rounds of the kernel's own cells; duties are named by a truth value (a barrier has two). -/
abbrev UX : Type := URounds (GSem nD τ sig) Bool
/-- The launch machinery's rounds, the kernel's, and the counters of the copies inside one device. -/
abbrev UU : Type := UR sig nD τ × (UX × Counters)

local notation "𝕄" => MT nD τ sig Unit (Elt F) ℕ UU ℕ

abbrev EP : Emb (UR sig nD τ) (MT nD τ sig Unit (Elt F) ℕ UU ℕ) := embL
/-- Where the kernel's rounds lie. -/
def ER : Emb UX (MT nD τ sig Unit (Elt F) ℕ UU ℕ) :=
  ((Emb.inl : Emb UX (UX × Counters)).trans (Emb.inr : Emb (UX × Counters) UU)).trans
    (uEmb (nD := nD) (τ := τ) (sig := sig) (Ix := Unit) (Val := Elt F) (Name := ℕ) (U := UU) (Lvl := ℕ)).toEmb
instance ER_landsIn : (ER : Emb UX 𝕄).LandsIn (upEmb : UEmb _ 𝕄) := by unfold ER; infer_instance
/-- Where the counters of the local copies lie. -/
abbrev EC : UEmb Counters (MT nD τ sig Unit (Elt F) ℕ UU ℕ) := countersEmb (U := UU)

/-! ## Holding a piece -/

variable {sp : Space} {s : Shape} {e : EltTy}

/-- Device `c` holds the piece `M` whole, at contents reading as `v`. -/
def At (c : Dev nD) (M : Memref sig .tc sp s e) (v : s.Idx → Elt F e) : sProp 𝕄 :=
  iprop(∃ f : Buf (Elt F) (M.view.loc (c : Thread nD τ)), ⌜M.view.read (Elt F) f = v⌝ ∗ (M.view.loc (c : Thread nD τ) ↦[M.view.set]{fullShare} f))

/-- Device `c` holds the piece `M` whole, at some contents. -/
def AnyAt (c : Dev nD) (M : Memref sig .tc sp s e) : sProp 𝕄 :=
  iprop(∃ f : Buf (Elt F) (M.view.loc (c : Thread nD τ)), M.view.loc (c : Thread nD τ) ↦[M.view.set]{fullShare} f)

instance At_storable (c : Dev nD) (M : Memref sig .tc sp s e) (v : s.Idx → Elt F e) :
    BI.Storable (upEmb : UEmb _ 𝕄) (At c M v) := by unfold At; infer_instance
instance AnyAt_storable (c : Dev nD) (M : Memref sig .tc sp s e) :
    BI.Storable (upEmb : UEmb _ 𝕄) (AnyAt c M : sProp 𝕄) := by unfold AnyAt; infer_instance

omit [FloatOps F] in
/-- A piece at named contents is a piece at some contents. -/
theorem At_any (c : Dev nD) (M : Memref sig .tc sp s e) (v : s.Idx → Elt F e) : At c M v ⊢ (AnyAt c M : sProp 𝕄) := by
  unfold At AnyAt
  iintro ⟨%f, -, H⟩
  iexists f; iexact H

omit [FloatOps F] in
/-- A piece just written through reads as what was written. -/
theorem At_written (c : Dev nD) (M : Memref sig .tc sp s e) (w : s.Idx → Elt F e) (f : Buf (Elt F) (M.view.loc (c : Thread nD τ))) :
    (M.view.loc (c : Thread nD τ) ↦[M.view.set]{fullShare} M.view.write (Elt F) f w Finset.univ) ⊢ (At c M w : sProp 𝕄) := by
  unfold At
  iintro H
  iexists (M.view.write (Elt F) f w Finset.univ)
  isplitr
  · ipureintro; exact View.read_write_univ f w
  iexact H

omit [FloatOps F] in
/-- A piece at the contents a points-to names. -/
theorem At_intro (c : Dev nD) (M : Memref sig .tc sp s e) (f : Buf (Elt F) (M.view.loc (c : Thread nD τ))) :
    (M.view.loc (c : Thread nD τ) ↦[M.view.set]{fullShare} f) ⊢ (At c M (M.view.read (Elt F) f) : sProp 𝕄) := by
  unfold At
  iintro H
  iexists f
  isplitr
  · ipureintro; rfl
  iexact H

omit [FloatOps F] in
/-- The points-to behind a piece. -/
theorem At_open (c : Dev nD) (M : Memref sig .tc sp s e) (v : s.Idx → Elt F e) :
    At c M v ⊢ (iprop(∃ f : Buf (Elt F) (M.view.loc (c : Thread nD τ)), ⌜M.view.read (Elt F) f = v⌝
      ∗ (M.view.loc (c : Thread nD τ) ↦[M.view.set]{fullShare} f)) : sProp 𝕄) := by
  unfold At
  exact BI.Entails.refl _

/-! ## The pieces -/

theorem blk_inb (b : Fin 4) : ∀ a, blkOff b a + S1024x8192.size a ≤ S4096x8192.size a := by revert b; decide
theorem half_inb (b : Fin 4) (j : Fin 2) : ∀ a, halfOff b j a + S512x8192.size a ≤ S4096x8192.size a := by revert b j; decide
theorem slot_inb (k : Fin 3) : ∀ a, (![k.val, 0, 0] : Fin 3 → ℕ) a + S1x1024x8192.size a ≤ S3x1024x8192.size a := by revert k; decide
theorem shalf_inb (k : Fin 3) (j : Fin 2) : ∀ a, (![k.val, 512 * j.val, 0] : Fin 3 → ℕ) a + S1x512x8192.size a ≤ S3x1024x8192.size a := by
  revert k j; decide

/-- Block `b` of the result: rows 1024 b to 1024 b + 1023. -/
abbrev outM (b : Fin 4) : Memref sig .tc .hbm S1024x8192 .bf16 :=
  (Memref.whole main_v3_0).slice (Rect.unit (s := S4096x8192) (blkOff b) S1024x8192.size (blk_inb b)) (fun _ => rfl)
/-- Half `j` of block `b` of the result. -/
abbrev outH (b : Fin 4) (j : Fin 2) : Memref sig .tc .hbm S512x8192 .bf16 :=
  (Memref.whole main_v3_0).slice (Rect.unit (s := S4096x8192) (halfOff b j) S512x8192.size (half_inb b j)) (fun _ => rfl)
/-- Receive slot `k`. -/
abbrev slotM (k : Fin 3) : Memref sig .tc .hbm S1024x8192 .bf16 :=
  ((Memref.whole main_v3_1).slice (Rect.unit (s := S3x1024x8192) ![k.val, 0, 0] S1x1024x8192.size (slot_inb k)) (fun _ => rfl)).squeeze
    S1024x8192 squeezes_S1x1024x8192_S1024x8192
/-- Half `j` of receive slot `k`. -/
abbrev slotH (k : Fin 3) (j : Fin 2) : Memref sig .tc .hbm S512x8192 .bf16 :=
  ((Memref.whole main_v3_1).slice (Rect.unit (s := S3x1024x8192) ![k.val, 512 * j.val, 0] S1x512x8192.size (shalf_inb k j)) (fun _ => rfl)).squeeze
    S512x8192 squeezes_S1x512x8192_S512x8192

/-- Row `r` of half `j`, as a row of the whole piece. -/
abbrev hIdx (j : Fin 2) (x : S512x8192.Idx) : S1024x8192.Idx :=
  ix2 (⟨512 * j.val + (x 0).val, by have h : (x 0).val < 512 := (x 0).isLt; omega⟩ : Fin 1024) (x 1)

/-- Half `j` of a piece's values. -/
abbrev hOf {α : Type} (j : Fin 2) (v : S1024x8192.Idx → α) : S512x8192.Idx → α := fun x => v (hIdx j x)

/-- Two pieces' values that agree on both halves agree. -/
theorem hOf_ext {α : Type} {v w : S1024x8192.Idx → α} (h0 : hOf 0 v = hOf 0 w) (h1 : hOf 1 v = hOf 1 w) : v = w := by
  funext x
  by_cases h : (x 0).val < 512
  · have := congrFun h0 (ix2 (⟨(x 0).val, h⟩ : Fin 512) (x 1))
    have e : hIdx 0 (ix2 (⟨(x 0).val, h⟩ : Fin 512) (x 1)) = x := by
      funext a; fin_cases a
      · exact Fin.ext (Nat.zero_add _)
      · rfl
    simpa only [hOf, e] using this
  · have hlt : (x 0).val < 1024 := (x 0).isLt
    have := congrFun h1 (ix2 (⟨(x 0).val - 512, by omega⟩ : Fin 512) (x 1))
    have e : hIdx 1 (ix2 (⟨(x 0).val - 512, by omega⟩ : Fin 512) (x 1)) = x := by
      funext a; fin_cases a
      · apply Fin.ext; show 512 * 1 + ((x 0).val - 512) = (x 0).val; omega
      · rfl
    simpa only [hOf, e] using this

theorem outM_set (b : Fin 4) : (outM b).view.set = (Rect.unit (s := S4096x8192) (blkOff b) S1024x8192.size (blk_inb b)).set :=
  View.set_slice_whole ..
theorem outH_set (b : Fin 4) (j : Fin 2) :
    (outH b j).view.set = (Rect.unit (s := S4096x8192) (halfOff b j) S512x8192.size (half_inb b j)).set :=
  View.set_slice_whole ..
theorem slotM_set (k : Fin 3) :
    (slotM k).view.set = (Rect.unit (s := S3x1024x8192) ![k.val, 0, 0] S1x1024x8192.size (slot_inb k)).set :=
  (View.set_reshape _ _).trans (View.set_slice_whole ..)
theorem slotH_set (k : Fin 3) (j : Fin 2) :
    (slotH k j).view.set = (Rect.unit (s := S3x1024x8192) ![k.val, 512 * j.val, 0] S1x512x8192.size (shalf_inb k j)).set :=
  (View.set_reshape _ _).trans (View.set_slice_whole ..)

/-- A block is its two halves. -/
theorem outM_halves (b : Fin 4) : (outM b).view.set = (outH b 0).view.set ∪ (outH b 1).view.set := by
  rw [outM_set, outH_set, outH_set]
  ext i
  simp only [Finset.mem_union, Rect.mem_set_unit, Fin.forall_fin_two]
  show (1024 * b.val ≤ (i 0).val ∧ (i 0).val < 1024 * b.val + 1024) ∧ (0 ≤ (i 1).val ∧ (i 1).val < 0 + 8192) ↔
    ((1024 * b.val + 512 * 0 ≤ (i 0).val ∧ (i 0).val < 1024 * b.val + 512 * 0 + 512) ∧ (0 ≤ (i 1).val ∧ (i 1).val < 0 + 8192)) ∨
    ((1024 * b.val + 512 * 1 ≤ (i 0).val ∧ (i 0).val < 1024 * b.val + 512 * 1 + 512) ∧ (0 ≤ (i 1).val ∧ (i 1).val < 0 + 8192))
  omega
theorem outH_disjoint (b : Fin 4) : Disjoint (outH b 0).view.set (outH b 1).view.set := by
  rw [outH_set, outH_set]
  exact Rect.unit_disjoint 0 (.inl (by show 1024 * b.val + 512 * 0 + 512 ≤ 1024 * b.val + 512 * 1; omega))

/-- A receive slot is its two halves. -/
theorem slotM_halves (k : Fin 3) : (slotM k).view.set = (slotH k 0).view.set ∪ (slotH k 1).view.set := by
  rw [slotM_set, slotH_set, slotH_set]
  ext i
  simp only [Finset.mem_union, Rect.mem_set_unit, Fin.forall_fin_succ, Fin.forall_fin_zero_pi, IsEmpty.forall_iff, and_true]
  show (k.val ≤ (i 0).val ∧ (i 0).val < k.val + 1) ∧ (0 ≤ (i 1).val ∧ (i 1).val < 0 + 1024) ∧ (0 ≤ (i 2).val ∧ (i 2).val < 0 + 8192) ↔
    ((k.val ≤ (i 0).val ∧ (i 0).val < k.val + 1) ∧ (512 * 0 ≤ (i 1).val ∧ (i 1).val < 512 * 0 + 512) ∧ (0 ≤ (i 2).val ∧ (i 2).val < 0 + 8192)) ∨
    ((k.val ≤ (i 0).val ∧ (i 0).val < k.val + 1) ∧ (512 * 1 ≤ (i 1).val ∧ (i 1).val < 512 * 1 + 512) ∧ (0 ≤ (i 2).val ∧ (i 2).val < 0 + 8192))
  omega
theorem slotH_disjoint (k : Fin 3) : Disjoint (slotH k 0).view.set (slotH k 1).view.set := by
  rw [slotH_set, slotH_set]
  exact Rect.unit_disjoint 1 (.inl (by show 512 * 0 + 512 ≤ 512 * 1; omega))

/-- Different blocks share no element. -/
theorem outM_disjoint {b b' : Fin 4} (h : b ≠ b') : Disjoint (outM b).view.set (outM b').view.set := by
  rw [outM_set, outM_set]
  have h' : b.val ≠ b'.val := fun e => h (Fin.ext e)
  exact Rect.unit_disjoint 0 (by show 1024 * b.val + 1024 ≤ 1024 * b'.val ∨ 1024 * b'.val + 1024 ≤ 1024 * b.val; omega)
theorem slotM_disjoint {k k' : Fin 3} (h : k ≠ k') : Disjoint (slotM k).view.set (slotM k').view.set := by
  rw [slotM_set, slotM_set]
  have h' : k.val ≠ k'.val := fun e => h (Fin.ext e)
  exact Rect.unit_disjoint 0 (by show k.val + 1 ≤ k'.val ∨ k'.val + 1 ≤ k.val; omega)

/-- Half `j` of a block, read, is half `j` of the block read. -/
theorem outH_read (b : Fin 4) (j : Fin 2) (f : main_v3_0.ty.Contents (Elt F)) :
    (outH b j).view.read (Elt F) f = hOf j ((outM b).view.read (Elt F) f) := by
  funext x
  show f _ = f _
  congr 1
  funext a
  apply Fin.ext
  fin_cases a
  · show 1024 * b.val + 512 * j.val + 1 * (x 0).val = 1024 * b.val + 1 * (512 * j.val + (x 0).val); omega
  · rfl

/-- Half `j` of a slot, read, is half `j` of the slot read. -/
theorem slotH_read (k : Fin 3) (j : Fin 2) (f : main_v3_1.ty.Contents (Elt F)) :
    (slotH k j).view.read (Elt F) f = hOf j ((slotM k).view.read (Elt F) f) := by
  funext x
  show f _ = f _
  congr 1
  have e1 : (Shape.reshapeEquiv squeezes_S1x512x8192_S512x8192.numel_eq) x = Fin.cons ⟨0, Nat.one_pos⟩ x :=
    Shape.reshapeEquiv_cons_one (d := ![512, 8192]) _ x
  have e2 : (Shape.reshapeEquiv squeezes_S1x1024x8192_S1024x8192.numel_eq) (hIdx j x) = Fin.cons ⟨0, Nat.one_pos⟩ (hIdx j x) :=
    Shape.reshapeEquiv_cons_one (d := ![1024, 8192]) _ _
  show (Rect.unit (s := S3x1024x8192) ![k.val, 512 * j.val, 0] S1x512x8192.size (shalf_inb k j)).emb (Shape.reshapeEquiv _ x) =
    (Rect.unit (s := S3x1024x8192) ![k.val, 0, 0] S1x1024x8192.size (slot_inb k)).emb (Shape.reshapeEquiv _ (hIdx j x))
  rw [e1, e2]
  funext a
  apply Fin.ext
  fin_cases a
  · rfl
  · show 512 * j.val + 1 * (x 0).val = 0 + 1 * (512 * j.val + (x 0).val); omega
  · rfl

/-! ## Splitting a piece in two and joining it back -/

omit [FloatOps F] in
/-- A buffer's elements in two parts: knowing what the whole reads as is knowing what each part reads as. -/
theorem split_two {ℓ : Loc nD τ sig} {I I₀ I₁ : Finset (Idx ℓ)} (hI : I = I₀ ∪ I₁) (hd : Disjoint I₀ I₁)
    {α β : Type} (rd : Buf (Elt F) ℓ → α) (rd₀ rd₁ : Buf (Elt F) ℓ → β) (p₀ p₁ : α → β)
    (h₀ : ∀ f, rd₀ f = p₀ (rd f)) (h₁ : ∀ f, rd₁ f = p₁ (rd f))
    (loc₀ : ∀ f g, (∀ i ∈ I₀, f i = g i) → rd₀ f = rd₀ g) (loc₁ : ∀ f g, (∀ i ∈ I₁, f i = g i) → rd₁ f = rd₁ g)
    (ext : ∀ v w, p₀ v = p₀ w → p₁ v = p₁ w → v = w) (v : α) :
    iprop(∃ f : Buf (Elt F) ℓ, ⌜rd f = v⌝ ∗ (ℓ ↦[I]{fullShare} f)) ⊣⊢
      (iprop((∃ f : Buf (Elt F) ℓ, ⌜rd₀ f = p₀ v⌝ ∗ (ℓ ↦[I₀]{fullShare} f)) ∗
        (∃ f : Buf (Elt F) ℓ, ⌜rd₁ f = p₁ v⌝ ∗ (ℓ ↦[I₁]{fullShare} f))) : sProp 𝕄) := by
  subst hI
  constructor
  · iintro ⟨%f, %hf, H⟩
    ihave H := (pointsTo_union (q := fullShare) (f := f) hd).1 $$ H
    icases H with ⟨H0, H1⟩
    isplitl [H0]
    · iexists f
      isplitr
      · ipureintro; rw [h₀, hf]
      iexact H0
    · iexists f
      isplitr
      · ipureintro; rw [h₁, hf]
      iexact H1
  · iintro ⟨⟨%f, %hf, H0⟩, ⟨%g, %hg, H1⟩⟩
    iexists (I₁.piecewise g f)
    isplitr
    · ipureintro
      refine ext _ _ ?_ ?_
      · rw [← h₀, ← hf]
        exact loc₀ _ _ fun i hi => Finset.piecewise_eq_of_notMem _ _ _ (Finset.disjoint_left.mp hd hi)
      · rw [← h₁, ← hg]
        exact loc₁ _ _ fun i hi => Finset.piecewise_eq_of_mem _ _ _ hi
    · iapply (pointsTo_join (q := fullShare) (f := f) (g := g) hd)
      isplitl [H0]; · iexact H0
      iexact H1

/-- A block of the result is its two halves. -/
theorem outM_split (c : Dev nD) (b : Fin 4) (v : S1024x8192.Idx → Elt F .bf16) :
    At c (outM b) v ⊣⊢ (iprop(At c (outH b 0) (hOf 0 v) ∗ At c (outH b 1) (hOf 1 v)) : sProp 𝕄) :=
  split_two (ℓ := (c : Thread nD τ).loc main_v3_0) (outM_halves b) (outH_disjoint b)
    (fun f => (outM b).view.read (Elt F) f) (fun f => (outH b 0).view.read (Elt F) f) (fun f => (outH b 1).view.read (Elt F) f)
    (hOf 0) (hOf 1) (fun f => outH_read b 0 f) (fun f => outH_read b 1 f)
    (fun _ _ h => View.read_congr h) (fun _ _ h => View.read_congr h) (fun _ _ => hOf_ext) v

/-- A receive slot is its two halves. -/
theorem slotM_split (c : Dev nD) (k : Fin 3) (v : S1024x8192.Idx → Elt F .bf16) :
    At c (slotM k) v ⊣⊢ (iprop(At c (slotH k 0) (hOf 0 v) ∗ At c (slotH k 1) (hOf 1 v)) : sProp 𝕄) :=
  split_two (ℓ := (c : Thread nD τ).loc main_v3_1) (slotM_halves k) (slotH_disjoint k)
    (fun f => (slotM k).view.read (Elt F) f) (fun f => (slotH k 0).view.read (Elt F) f) (fun f => (slotH k 1).view.read (Elt F) f)
    (hOf 0) (hOf 1) (fun f => slotH_read k 0 f) (fun f => slotH_read k 1 f)
    (fun _ _ h => View.read_congr h) (fun _ _ h => View.read_congr h) (fun _ _ => hOf_ext) v

end Cert.KernelIdeal.Run

end
-- ==== Proof.Local.lean ====
/- What one device does on its own memory: copying one piece to another, and adding half a receive slot onto half a block
   of the result through the two scratch buffers. -/
module

public import proofs.«01_k».proof.Proof.Blocks
public import proofs.«01_k».proof.Proof.Gen.KernelIdeal.Skeleton

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- A step of the kernel on one device. -/
abbrev KProg (F : FTy → Type) [FloatOps F] : Type 1 := Prog (TpuEff nD τ sig (Elt F) Λ₀ .tc) PUnit

/-- Running `p` on device `c` to the assertion `Q`. -/
abbrev runs (c : Dev nD) (p : KProg F) (Q : PUnit → sProp 𝕄) : sProp 𝕄 :=
  wp frame (wpE (defs₀ (F := F)) 𝒱₀ (c : Thread nD τ) none) Set.univ p Q

variable {sp sp' : Space} {s : Shape} {e : EltTy}

/-- A copy under way on device `c`'s semaphore `sm`: when its `N` units have come, it delivers `P`. -/
def InFlight (c : Dev nD) (sm : DmaSem sig) (N : ℕ) (P : sProp 𝕄) : sProp 𝕄 :=
  iprop(∃ D : sProp 𝕄, ⌜D ⊢ P⌝ ∗ Transfers.Flight (EC (F := F)) (c : Thread nD τ) (.dma sm) () N D)

/-- Starting a copy inside one device. -/
theorem start_copy (c : Dev nD) {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {k : PUnit → KProg F} {Q : PUnit → sProp 𝕄} (v : s.Idx → Elt F e) (hs : 0 < s.numel) :
    iprop(At c src v ∗ AnyAt c dst ∗ semVal ((c : Thread nD τ), .dma sm) 0)
      ⊢ iprop((InFlight c sm dst.view.dmaCredit iprop(At c dst v ∗ At c src v) -∗ runs c (k ⟨⟩) Q)
        -∗ runs c (.op (.enqueueDma src (.here dst) (.dma sm) hsrc hdst hsem) k) Q) := by
  unfold AnyAt
  iintro ⟨Hs, ⟨%fd, Hd⟩, Hv⟩ Hk
  ihave Hs := (At_open c src v) $$ Hs
  icases Hs with ⟨%fs, %hfs, Hs⟩
  iapply (Transfers.wp_dmaLocal (EC (F := F)) 𝒱₀ (c : Thread nD τ) none (src := src) (dst := dst) (via := .same) (fs := fs) (fd := fd)
    (Sd := dst.view.set) () dst.view.dmaCredit rfl (View.dmaCredit_pos _ hs) (Finset.Subset.refl _)) $$ [Hs Hd Hv]
  · isplitl [Hs]; · iexact Hs
    isplitl [Hd]; · iexact Hd
    iexact Hv
  iintro HF
  iapply Hk
  unfold InFlight
  iexists _
  isplitr
  swap
  · iexact HF
  ipureintro
  iintro ⟨Hd, Hs⟩
  isplitl [Hd]
  · rw [← hfs]
    iapply (At_written c dst _ fd); iexact Hd
  · rw [← hfs]
    iapply (At_intro c src fs); iexact Hs

/-- Waiting for it. -/
theorem wait_copy (c : Dev nD) {s₁ : Shape} {e₁ : EltTy} {srcw : Memref sig .tc sp s₁ e₁} {dstw : Memref sig .tc sp' s e} {sm : DmaSem sig}
    {hsrc : srcw.view.WordExact} {hdst : dstw.view.WordExact}
    {k : PUnit → KProg F} {Q : PUnit → sProp 𝕄} {N : ℕ} (hN : dstw.view.dmaCredit = N) {P : sProp 𝕄}
    (O : CellTallies nD τ sig Unit) (W : Waits sig Unit) :
    iprop(InFlight c sm N P ∗ owes (c : Thread nD τ) O W ∗ MayWait (c : Thread nD τ) (.dma sm) () O)
      ⊢ iprop((iprop(P ∗ semVal ((c : Thread nD τ), .dma sm) 0 ∗ ∃ W', owes (c : Thread nD τ) O W') -∗ runs c (k ⟨⟩) Q)
        -∗ runs c (.op (.waitDma2 sm srcw dstw hsrc hdst) k) Q) := by
  unfold InFlight
  iintro ⟨⟨%D, %hD, HF⟩, HO, Hm⟩ Hk
  iapply (Transfers.wp_waitLocalO (EC (F := F)) 𝒱₀ (c : Thread nD τ) none () hN) $$ [HF HO Hm]
  · isplitl [HF]; · iexact HF
    isplitl [HO]; · iexact HO
    iexact Hm
  iintro ⟨HD, Hv, HO⟩
  iapply Hk
  isplitl [HD]; · iapply hD; iexact HD
  isplitl [Hv]; · iexact Hv
  iexists _; iexact HO

/-- Loading a whole scratch buffer. -/
theorem load_all (c : Dev nD) {M : Memref sig .tc .vmem s e} {r : Rect s} {hl : M.view.LoadsAt r}
    {k : (r.shape.Idx → Elt F e) → KProg F} {Q : PUnit → sProp 𝕄} (v : s.Idx → Elt F e) (v' : r.shape.Idx → Elt F e)
    (hr : ∀ f, M.view.read (Elt F) f = v → (M.access r).read (Elt F) f = v') :
    At c M v ⊢ iprop((At c M v -∗ runs c (k v') Q) -∗ runs c (.op (.load M r hl) k) Q) := by
  iintro H Hk
  ihave H := (At_open c M v) $$ H
  icases H with ⟨%f, %hf, H⟩
  iapply (wp_load_rect 𝒱₀ (c : Thread nD τ) none Set.univ (m := M) (r := r) (S := M.view.set) (q := fullShare) (f := f) (View.set_slice_subset _ _)) $$ H
  iintro H
  rw [hr f hf]
  iapply Hk
  rw [← hf]
  iapply (At_intro c M f); iexact H

/-- Storing a whole scratch buffer. -/
theorem store_all (c : Dev nD) {M : Memref sig .tc .vmem s e} {r : Rect s} {w : r.shape.Idx → Elt F e}
    {hx : (M.access r).Stores Finset.univ} {hm : (Finset.univ : Finset r.shape.Idx) = Finset.univ ∨ ∀ a, r.stride a = 1}
    {k : PUnit → KProg F} {Q : PUnit → sProp 𝕄} (v' : s.Idx → Elt F e)
    (hw : ∀ f, M.view.read (Elt F) ((M.access r).write (Elt F) f w Finset.univ) = v') :
    AnyAt c M ⊢ iprop((At c M v' -∗ runs c (k ⟨⟩) Q) -∗ runs c (.op (.store M r w Finset.univ hx hm) k) Q) := by
  unfold AnyAt
  iintro ⟨%f, H⟩ Hk
  iapply (wp_store 𝒱₀ (c : Thread nD τ) none Set.univ (m := M) (r := r) (S := M.view.set) (f := f) (View.set_slice_subset _ _)) $$ H
  iintro H
  iapply Hk
  rw [← hw f]
  iapply (At_intro c M _); iexact H

/-! ## The first copy -/

/-- The first copy: the input into the result, on semaphore `sm`, waited for. -/
def copyIn (F : FTy → Type) [FloatOps F] (sm : DmaSem sig) : KProg F :=
  .op (.enqueueDma (Memref.whole main_v2) (.here (Memref.whole main_v3_0)) (.dma sm)
    (Memref.isWhole_whole main_v2).wordExact (Memref.isWhole_whole main_v3_0).wordExact ⟨Or.inl rfl, trivial⟩) fun _ =>
  .op (.waitDma2 sm (Memref.whole main_v2) (Memref.whole main_v3_0)
    (Memref.isWhole_whole main_v2).wordExact (Memref.isWhole_whole main_v3_0).wordExact) .ret

/-- After the first copy the result buffer holds the input. -/
theorem copyIn_run (c : Dev nD) (sm : DmaSem sig) (v : S4096x8192.Idx → Elt F .bf16) (O : CellTallies nD τ sig Unit)
    (W : Waits sig Unit) (X : sProp 𝕄) [BI.Persistent X] (hX : X ⊢ MayWait (c : Thread nD τ) (.dma sm) () O) (Q : PUnit → sProp 𝕄) :
    iprop(X ∗ At c (Memref.whole main_v2) v ∗ AnyAt c (Memref.whole main_v3_0) ∗ semVal ((c : Thread nD τ), .dma sm) 0
        ∗ owes (c : Thread nD τ) O W
        ∗ (iprop(At c (Memref.whole main_v3_0) v ∗ At c (Memref.whole main_v2) v ∗ semVal ((c : Thread nD τ), .dma sm) 0
            ∗ ∃ W', owes (c : Thread nD τ) O W') -∗ Q ⟨⟩))
      ⊢ runs c (copyIn F sm) Q := by
  unfold copyIn
  iintro ⟨#HX, Hs, Hd, Hv, HO, Hk⟩
  iapply (start_copy c v (by decide)) $$ [Hs Hd Hv]
  · isplitl [Hs]; · iexact Hs
    isplitl [Hd]; · iexact Hd
    iexact Hv
  iintro HF
  iapply (wait_copy c rfl O W) $$ [HF HO]
  · isplitl [HF]; · iexact HF
    isplitl [HO]; · iexact HO
    iapply hX; iexact HX
  iintro ⟨⟨Hd, Hs⟩, Hv, HO⟩
  unfold runs
  rw [wp_ret]
  imodintro
  iapply Hk
  isplitl [Hd]; · iexact Hd
  isplitl [Hs]; · iexact Hs
  isplitl [Hv]; · iexact Hv
  iexact HO

/-! ## Adding half a slot onto half a block -/

/-- The sum of two arrays of bfloat16 values, each entry added in float32 and rounded back. -/
abbrev addRnd {s : Shape} (a b : s.Idx → Elt F .bf16) : s.Idx → Elt F .bf16 :=
  truncf .bf16 (addf (extf .f32 (a : FVec F s .bf16) bitsLt_bf16_f32) (extf .f32 (b : FVec F s .bf16) bitsLt_bf16_f32)) bitsLt_bf16_f32

/-- The rectangle of a scratch buffer the kernel loads and stores: all of it. -/
abbrev allR : Rect S512x8192 := Rect.unit (s := S512x8192) ![0, 0] S512x8192.size inb_S512x8192_S512x8192_0_0

/-- The two scratch buffers. -/
abbrev scA : Memref sig .tc .vmem S512x8192 .bf16 := Memref.whole cc0_scratch0
abbrev scB : Memref sig .tc .vmem S512x8192 .bf16 := Memref.whole cc0_scratch1

/-- One half of one accumulation: load half a block `o` and half a slot `r`, add, store, and copy back over `o`. -/
def halfStep (pay : Vec F S512x8192 .bf16 → Vec F S512x8192 .bf16 → FVec F S512x8192 .bf16) (o r : Memref sig .tc .hbm S512x8192 .bf16)
    (ho : o.view.WordExact) (hr : r.view.WordExact) (s0 s1 : DmaSem sig) : KProg F :=
  .op (.enqueueDma o (.here scA) (.dma s0) ho (Memref.isWhole_whole cc0_scratch0).wordExact ⟨Or.inl rfl, trivial⟩) fun _ =>
  .op (.enqueueDma r (.here scB) (.dma s1) hr (Memref.isWhole_whole cc0_scratch1).wordExact ⟨Or.inl rfl, trivial⟩) fun _ =>
  .op (.waitDma2 s0 o scA ho (Memref.isWhole_whole cc0_scratch0).wordExact) fun _ =>
  .op (.waitDma2 s1 r scB hr (Memref.isWhole_whole cc0_scratch1).wordExact) fun _ =>
  .op (.load scA allR.toLoadRect (View.loadsAt_vmem h_S512x8192)) fun a =>
  .op (.load scB allR.toLoadRect (View.loadsAt_vmem h_S512x8192)) fun b =>
  .op (.load scA allR.toLoadRect (View.loadsAt_vmem h_S512x8192)) fun _ =>
  .op (.store scA allR (pay a b) Finset.univ (View.stores_vmem h_S512x8192
    ((Memref.isWhole_whole cc0_scratch0).storeExact_slice rfl _ packedbf16_S512x8192_S512x8192_0_0) (fun _ => rfl)) (.inl rfl)) fun _ =>
  .op (.enqueueDma scA (.here o) (.dma s0) (Memref.isWhole_whole cc0_scratch0).wordExact ho ⟨Or.inl rfl, trivial⟩) fun _ =>
  .op (.waitDma2 s0 scA o (Memref.isWhole_whole cc0_scratch0).wordExact ho) .ret

theorem zero2 : (![0, 0] : Fin 2 → ℕ) = fun _ => 0 := by decide

theorem load_scr0 (v : S512x8192.Idx → Elt F .bf16) (f : cc0_scratch0.ty.Contents (Elt F)) (hf : scA.view.read (Elt F) f = v) :
    (scA.access allR).read (Elt F) f = v := by
  rw [View.read_whole] at hf
  exact (Memref.read_access_unit_zero (Elt F) cc0_scratch0 zero2 inb_S512x8192_S512x8192_0_0 f).trans hf
theorem load_scr1 (v : S512x8192.Idx → Elt F .bf16) (f : cc0_scratch1.ty.Contents (Elt F)) (hf : scB.view.read (Elt F) f = v) :
    (scB.access allR).read (Elt F) f = v := by
  rw [View.read_whole] at hf
  exact (Memref.read_access_unit_zero (Elt F) cc0_scratch1 zero2 inb_S512x8192_S512x8192_0_0 f).trans hf
theorem store_scr (f : cc0_scratch0.ty.Contents (Elt F)) (w : S512x8192.Idx → Elt F .bf16) :
    scA.view.read (Elt F) ((scA.access allR).write (Elt F) f w Finset.univ) = w := by
  rw [View.read_whole]
  exact Memref.write_access_unit_zero_univ (Elt F) cc0_scratch0 zero2 inb_S512x8192_S512x8192_0_0 f w

set_option maxRecDepth 16384 in
/-- After it, the half block holds the rounded sum; the slot is as it was. -/
theorem halfStep_run (c : Dev nD) (pay : Vec F S512x8192 .bf16 → Vec F S512x8192 .bf16 → FVec F S512x8192 .bf16)
    (hpay : ∀ a b, pay a b = addRnd a b) (o r : Memref sig .tc .hbm S512x8192 .bf16) (ho : o.view.WordExact) (hr : r.view.WordExact)
    (s0 s1 : DmaSem sig) (v w : S512x8192.Idx → Elt F .bf16) (O : CellTallies nD τ sig Unit) (W : Waits sig Unit)
    (X : sProp 𝕄) [BI.Persistent X] (h0 : X ⊢ MayWait (c : Thread nD τ) (.dma s0) () O) (h1 : X ⊢ MayWait (c : Thread nD τ) (.dma s1) () O)
    (Q : PUnit → sProp 𝕄) :
    iprop(X ∗ At c o v ∗ At c r w ∗ AnyAt c scA ∗ AnyAt c scB ∗ semVal ((c : Thread nD τ), .dma s0) 0 ∗ semVal ((c : Thread nD τ), .dma s1) 0
        ∗ owes (c : Thread nD τ) O W
        ∗ (iprop(At c o (addRnd v w) ∗ At c r w ∗ AnyAt c scA ∗ AnyAt c scB ∗ semVal ((c : Thread nD τ), .dma s0) 0
            ∗ semVal ((c : Thread nD τ), .dma s1) 0 ∗ ∃ W', owes (c : Thread nD τ) O W') -∗ Q ⟨⟩))
      ⊢ runs c (halfStep pay o r ho hr s0 s1) Q := by
  unfold halfStep
  iintro ⟨#HX, Ho, Hr, HA, HB, Hv0, Hv1, HO, Hk⟩
  iapply (start_copy c v (by decide)) $$ [Ho HA Hv0]
  · isplitl [Ho]; · iexact Ho
    isplitl [HA]; · iexact HA
    iexact Hv0
  iintro HF0
  iapply (start_copy c w (by decide)) $$ [Hr HB Hv1]
  · isplitl [Hr]; · iexact Hr
    isplitl [HB]; · iexact HB
    iexact Hv1
  iintro HF1
  iapply (wait_copy c rfl O W) $$ [HF0 HO]
  · isplitl [HF0]; · iexact HF0
    isplitl [HO]; · iexact HO
    iapply h0; iexact HX
  iintro ⟨⟨HA, Ho⟩, Hv0, ⟨%W1, HO⟩⟩
  iapply (wait_copy c rfl O W1) $$ [HF1 HO]
  · isplitl [HF1]; · iexact HF1
    isplitl [HO]; · iexact HO
    iapply h1; iexact HX
  iintro ⟨⟨HB, Hr⟩, Hv1, ⟨%W2, HO⟩⟩
  iapply (load_all c (M := scA) v v (load_scr0 v)) $$ HA
  iintro HA
  iapply (load_all c (M := scB) w w (load_scr1 w)) $$ HB
  iintro HB
  iapply (load_all c (M := scA) v v (load_scr0 v)) $$ HA
  iintro HA
  ihave HA := (At_any c scA v) $$ HA
  iapply (store_all c (M := scA) (addRnd v w) (fun f => (store_scr f (pay v w)).trans (hpay v w))) $$ HA
  iintro HA
  ihave Ho := (At_any c o v) $$ Ho
  iapply (start_copy c (addRnd v w) (by decide)) $$ [HA Ho Hv0]
  · isplitl [HA]; · iexact HA
    isplitl [Ho]; · iexact Ho
    iexact Hv0
  iintro HF0
  iapply (wait_copy c rfl O W2) $$ [HF0 HO]
  · isplitl [HF0]; · iexact HF0
    isplitl [HO]; · iexact HO
    iapply h0; iexact HX
  iintro ⟨⟨Ho, HA⟩, Hv0, HO⟩
  ihave HA := (At_any c scA (addRnd v w)) $$ HA
  ihave HB := (At_any c scB w) $$ HB
  unfold runs
  rw [wp_ret]
  imodintro
  iapply Hk
  isplitl [Ho]; · iexact Ho
  isplitl [Hr]; · iexact Hr
  isplitl [HA]; · iexact HA
  isplitl [HB]; · iexact HB
  isplitl [Hv0]; · iexact Hv0
  isplitl [Hv1]; · iexact Hv1
  iexact HO

end Cert.KernelIdeal.Run

end
-- ==== Proof.Pieces.lean ====
/- The kernel's body as a sequence of few kinds of pieces: the barrier, the first copy, six neighbour transfers, and the
   two half accumulations after each of the first three. -/
module

public import proofs.«01_k».proof.Proof.Local

@[expose] public section

noncomputable section

namespace Cert.KernelIdeal.Run

open Idealize.ShloMosaic Idealize.ShloMosaic.TcCoe
open Idealize.SL Idealize.SL.Sem
open Cert.KernelIdeal.Gen

variable {F : FTy → Type} [FloatOps F]

/-- The semaphores: the barrier's; the two of the local copies; the six of sending; the six of receiving. -/
abbrev barS : Sem sig := sig.barrier 0 rfl
abbrev locS (i : Fin 2) : DmaSem sig := (⟨i.val, by have := i.isLt; show i.val < 14; omega⟩ : Fin 14)
abbrev sendS (k : Fin 6) : DmaSem sig := (⟨2 + k.val, by have := k.isLt; show 2 + k.val < 14; omega⟩ : Fin 14)
abbrev recvS (k : Fin 6) : DmaSem sig := (⟨8 + k.val, by have := k.isLt; show 8 + k.val < 14; omega⟩ : Fin 14)

/-- The barrier: one unit to each neighbour, then two awaited. -/
def barrier (F : FTy → Type) [FloatOps F] (l r : Dev nD) : KProg F := do
  semSignalWord l barS 1#32
  semSignalWord r barS 1#32
  semWaitWord barS 2#32

/-- One transfer: `src` to device `n`'s `dst`; then the sending awaited, and the own arrival at `dst`. -/
def sendStep (F : FTy → Type) [FloatOps F] (src dst : Memref sig .tc .hbm S1024x8192 .bf16) (n : Dev nD) (k : Fin 6)
    (hs : src.view.WordExact) (hd : dst.view.WordExact) : KProg F :=
  .op (.enqueueDma src (.remote (Dev.tc n) dst (.dma (sendS k))) (.dma (recvS k)) hs hd ⟨⟨rfl, Or.inl rfl⟩, trivial⟩) fun _ =>
  .op (.waitDma2 (sendS k) dst src hd hs) fun _ =>
  .op (.waitDma2 (recvS k) src dst hs hd) .ret

/-- The slice of the result at an offset, 1024 rows; -/
abbrev outAt (off : Fin 2 → ℕ) (h : ∀ a, off a + S1024x8192.size a ≤ S4096x8192.size a) : Memref sig .tc .hbm S1024x8192 .bf16 :=
  (Memref.whole main_v3_0).slice (Rect.unit (s := S4096x8192) off S1024x8192.size h) (fun _ => rfl)
/-- and 512 rows. -/
abbrev outHAt (off : Fin 2 → ℕ) (h : ∀ a, off a + S512x8192.size a ≤ S4096x8192.size a) : Memref sig .tc .hbm S512x8192 .bf16 :=
  (Memref.whole main_v3_0).slice (Rect.unit (s := S4096x8192) off S512x8192.size h) (fun _ => rfl)

theorem outAt_exact {off : Fin 2 → ℕ} {h : ∀ a, off a + S1024x8192.size a ≤ S4096x8192.size a}
    (hw : (Rect.unit (s := S4096x8192) off S1024x8192.size h).WholeWords (EltTy.packing .bf16)) : (outAt off h).view.WordExact :=
  (Memref.isWhole_whole main_v3_0).wordExact_slice rfl _ hw
theorem outHAt_exact {off : Fin 2 → ℕ} {h : ∀ a, off a + S512x8192.size a ≤ S4096x8192.size a}
    (hw : (Rect.unit (s := S4096x8192) off S512x8192.size h).WholeWords (EltTy.packing .bf16)) : (outHAt off h).view.WordExact :=
  (Memref.isWhole_whole main_v3_0).wordExact_slice rfl _ hw
theorem slotM_exact (k : Fin 3) : (slotM k).view.WordExact :=
  ((Memref.isWhole_whole main_v3_1).wordExact_slice rfl _ (by revert k; decide +kernel)).reshape _ _
theorem slotH_exact (k : Fin 3) (j : Fin 2) : (slotH k j).view.WordExact :=
  ((Memref.isWhole_whole main_v3_1).wordExact_slice rfl _ (by revert k j; decide +kernel)).reshape _ _

/-- The transfer of step `k` in the first round: the block at the kernel's own offset, into slot `k` of device `n`. -/
abbrev rsStep (F : FTy → Type) [FloatOps F] (d n : Dev nD) (k : Fin 3) : KProg F :=
  sendStep F (outAt (k0_off1 d (BitVec.ofNat 32 k.val)) (k0_off1_inb d k)) (slotM k) n (k.castLE (by decide))
    (outAt_exact (k0_off1_wordsbf16 d k)) (slotM_exact k)
/-- The accumulation of half `j` after step `k`. -/
abbrev accStep (pay : Vec F S512x8192 .bf16 → Vec F S512x8192 .bf16 → FVec F S512x8192 .bf16) (d : Dev nD) (k : Fin 3) (j : Fin 2) : KProg F :=
  halfStep pay (outHAt (k0_off2 d (BitVec.ofNat 32 k.val) (BitVec.ofNat 32 (512 * j.val))) (k0_off2_inb d k j)) (slotH k j)
    (outHAt_exact (k0_off2_wordsbf16 d k j)) (slotH_exact k j) (locS 0) (locS 1)
/-- The transfer of step `t` in the second round: a finished block, into the same block of device `n`. -/
abbrev agStep (F : FTy → Type) [FloatOps F] (d n : Dev nD) (t : Fin 3) : KProg F :=
  sendStep F (outAt (k0_off3 d (BitVec.ofNat 32 t.val)) (k0_off3_inb d t)) (outAt (k0_off3 d (BitVec.ofNat 32 t.val)) (k0_off3_inb d t)) n
    (⟨t.val + 3, by have := t.isLt; omega⟩ : Fin 6) (outAt_exact (k0_off3_wordsbf16 d t)) (outAt_exact (k0_off3_wordsbf16 d t))

set_option maxRecDepth 65536 in
/-- The kernel's body is these pieces in order. -/
theorem body_eq : cc0__allreduce_body (F := F) (Memref.whole main_v2) (Memref.isWhole_whole _) (Memref.whole main_v3_0) (Memref.isWhole_whole _)
    (Memref.whole main_v3_1) (Memref.isWhole_whole _) (Memref.whole cc0_scratch0) (Memref.isWhole_whole _) (Memref.whole cc0_scratch1)
    (Memref.isWhole_whole _) cc0_scratch2 cc0_scratch3 cc0_scratch4 =
    (.op .deviceId fun d => do
      barrier F ⟨k0_dev1 d, k0_dev1_lt d⟩ ⟨k0_dev2 d, k0_dev2_lt d⟩
      copyIn F (locS 0)
      rsStep F d ⟨k0_dev3 d, k0_dev3_lt d⟩ 0
      accStep (F := F) k0_pay1 d 0 0
      accStep (F := F) k0_pay2 d 0 1
      rsStep F d ⟨k0_dev4 d, k0_dev4_lt d⟩ 1
      accStep (F := F) k0_pay3 d 1 0
      accStep (F := F) k0_pay4 d 1 1
      rsStep F d ⟨k0_dev5 d, k0_dev5_lt d⟩ 2
      accStep (F := F) k0_pay5 d 2 0
      accStep (F := F) k0_pay6 d 2 1
      agStep F d ⟨k0_dev6 d, k0_dev6_lt d⟩ 0
      agStep F d ⟨k0_dev7 d, k0_dev7_lt d⟩ 1
      agStep F d ⟨k0_dev8 d, k0_dev8_lt d⟩ 2) := rfl

end Cert.KernelIdeal.Run

end
-- ==== Proof.Sched.lean ====
/- The protocol of the ring: what each device sends at each step, the semaphore cells, what arrives with each of their units,
   what each device still owes, and the order in which devices may wait.

   Device c sends block `bk c k` of its result at step k. At steps 0, 1, 2 it goes into slot k of the right neighbour, which adds
   it onto its own copy of that block; at steps 3, 4, 5 it goes into the same block of the right neighbour's result. A block
   that device c sent at step k ≤ 2 is overwritten by its left neighbour at step k + 3: the right to write it travels with the
   transfers three devices to the right, which is the left neighbour. -/
module

public import proofs.«01_k».proof.Proof.Pieces

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

/-- Block `b` of a whole array. -/
abbrev blkOf {α : Type} (b : Fin 4) (w : S4096x8192.Idx → α) : S1024x8192.Idx → α := fun x =>
  w (ix2 (⟨1024 * b.val + (x 0).val, by have h : (x 0).val < 1024 := (x 0).isLt; have := b.isLt; omega⟩ : Fin 4096) (x 1))

/-! ## What is sent -/

/-- The arrays the devices start from. -/
abbrev Ins (F : FTy → Type) : Type := Dev nD → S4096x8192.Idx → Elt F .bf16

/-- What device `c` sends at step `k`: first its own block; then, up to step 3, what came from the left added onto its own
    block; then what came from the left, unchanged. -/
def sv (p : Ins F) : ℕ → Dev nD → S1024x8192.Idx → Elt F .bf16
  | 0, c => blkOf (bk c 0) (p c)
  | k + 1, c => if k < 3 then addRnd (blkOf (bk c (k + 1)) (p c)) (sv p k (prv c)) else sv p k (prv c)

theorem sv_zero (p : Ins F) (c : Dev nD) : sv p 0 c = blkOf (bk c 0) (p c) := rfl
theorem sv_acc (p : Ins F) (c : Dev nD) (k : ℕ) (h : k < 3) :
    sv p (k + 1) c = addRnd (blkOf (bk c (k + 1)) (p c)) (sv p k (prv c)) := by rw [sv, if_pos h]
theorem sv_pass (p : Ins F) (c : Dev nD) (k : ℕ) (h : ¬k < 3) : sv p (k + 1) c = sv p k (prv c) := by rw [sv, if_neg h]

/-! ## The cells -/

abbrev barCell (c : Dev nD) : GSem nD τ sig := ((c : Thread nD τ), .reg barS)
abbrev sendCell (c : Dev nD) (k : Fin 6) : GSem nD τ sig := ((c : Thread nD τ), .dma (sendS k))
abbrev recvCell (c : Dev nD) (k : Fin 6) : GSem nD τ sig := ((c : Thread nD τ), .dma (recvS k))
abbrev locCell (c : Dev nD) (i : Fin 2) : GSem nD τ sig := ((c : Thread nD τ), .dma (locS i))

/-- The units one transfer of 1024 rows pays. -/
def N : ℕ := (outM 0).view.dmaCredit
theorem N_pos : 0 < N := View.dmaCredit_pos _ (by decide)
theorem outAt_credit (off : Fin 2 → ℕ) (h : ∀ a, off a + S1024x8192.size a ≤ S4096x8192.size a) : (outAt off h).view.dmaCredit = N := rfl
theorem slotM_credit (k : Fin 3) : (slotM k).view.dmaCredit = N := rfl

/-! ## What the units bring -/

/-- The right to write the block device `e` sends at step `j`. -/
def tok (e : Dev nD) (j : ℕ) : sProp 𝕄 := AnyAt e (outM (bk e j))

/-- The rights device `c` passes on at step `k`, besides that to the block it sends. -/
def fwd (c : Dev nD) : ℕ → sProp 𝕄
  | 1 => tok (prv c) 0
  | 2 => iprop(tok (prv c) 1 ∗ tok (prv (prv c)) 0)
  | 3 => iprop(tok (prv c) 2 ∗ tok (prv (prv c)) 1)
  | 4 => tok (prv (prv c)) 2
  | _ => iprop(emp)

/-- Where device `c` receives at step `k`, at contents `v`. -/
def recvAt (c : Dev nD) (k : ℕ) (v : S1024x8192.Idx → Elt F .bf16) : sProp 𝕄 :=
  if h : k < 3 then At c (slotM ⟨k, h⟩) v else At c (outM (bk c (k + 1))) v

/-- What arrives at device `c` at step `k`: the place of arrival at what the left neighbour sent, the rights passed on, and
    in the first three steps the right to write the block that was sent. -/
def recvPay (p : Ins F) (c : Dev nD) (k : ℕ) : sProp 𝕄 :=
  iprop(recvAt c k (sv p k (prv c)) ∗ fwd (prv c) k ∗ (if k < 3 then tok (prv c) k else iprop(emp)))

/-- What a finished sending brings back: in the last three steps the block that was sent. -/
def sendPay (p : Ins F) (c : Dev nD) (k : ℕ) : sProp 𝕄 :=
  if k < 3 then iprop(emp) else At c (outM (bk c k)) (sv p k c)

/-- Round 0 of each of device `c`'s receive cells is reached. -/
def ready (c : Dev nD) : sProp 𝕄 := bigSep (Finset.univ : Finset (Fin 6)) fun k => reached ER (recvCell c k) 0

instance ready_persistent (c : Dev nD) : BI.Persistent (ready (F := F) c) := by unfold ready; infer_instance

/-- What the right neighbour's barrier unit brings: its three slots, and that it is ready to receive. -/
def barPay (c : Dev nD) : sProp 𝕄 :=
  iprop((AnyAt (nxt c) (slotM 0) ∗ AnyAt (nxt c) (slotM 1) ∗ AnyAt (nxt c) (slotM 2)) ∗ ready (nxt c))

/-! ## The schedule -/

/-- One round. A barrier cell has two duties, of one unit each: `true` the right neighbour's, `false` the left's. A send or
    receive cell has one, of a whole transfer. -/
def rd (p : Ins F) : Rounds.Schedule (GSem nD τ sig) Bool 𝕄 where
  duties g r := if r = 0 ∧ g.1.2 = .tc then (match g.2 with
    | .reg _ => Finset.univ
    | .dma i => if 2 ≤ i.val then {true} else ∅) else ∅
  unitless _ := False
  amount g _ _ := match g.2 with
    | .reg _ => 1
    | .dma _ => N
  payload g _ d := match g.2 with
    | .reg _ => if d then barPay g.1.1 else iprop(emp)
    | .dma i => if 8 ≤ i.val then recvPay p g.1.1 (i.val - 8) else sendPay p g.1.1 (i.val - 2)
  amount_pos g _ _ _ := by
    rcases g with ⟨_, s | i⟩
    · exact Nat.one_pos
    · exact N_pos

instance tok_storable (e : Dev nD) (j : ℕ) : BI.Storable (upEmb : UEmb _ 𝕄) (tok e j : sProp 𝕄) := by unfold tok; infer_instance
instance fwd_storable (c : Dev nD) (k : ℕ) : BI.Storable (upEmb : UEmb _ 𝕄) (fwd c k : sProp 𝕄) := by
  unfold fwd; split <;> infer_instance
instance recvAt_storable (c : Dev nD) (k : ℕ) (v : S1024x8192.Idx → Elt F .bf16) : BI.Storable (upEmb : UEmb _ 𝕄) (recvAt c k v : sProp 𝕄) := by
  unfold recvAt; split <;> infer_instance
instance recvPay_storable (p : Ins F) (c : Dev nD) (k : ℕ) : BI.Storable (upEmb : UEmb _ 𝕄) (recvPay p c k) := by
  unfold recvPay
  by_cases h : k < 3
  · rw [if_pos h]; infer_instance
  · rw [if_neg h]; infer_instance
instance sendPay_storable (p : Ins F) (c : Dev nD) (k : ℕ) : BI.Storable (upEmb : UEmb _ 𝕄) (sendPay p c k) := by
  unfold sendPay; split <;> infer_instance
instance barPay_storable (c : Dev nD) : BI.Storable (upEmb : UEmb _ 𝕄) (barPay c : sProp 𝕄) := by
  unfold barPay ready; infer_instance
instance rd_storable (p : Ins F) (g : GSem nD τ sig) (r : ℕ) (d : Bool) : BI.Storable (upEmb : UEmb _ 𝕄) ((rd p).payload g r d) := by
  rcases g with ⟨t, s | i⟩
  · show BI.Storable upEmb (if d then barPay t.1 else iprop(emp))
    split <;> infer_instance
  · show BI.Storable upEmb (if 8 ≤ i.val then recvPay p t.1 (i.val - 8) else sendPay p t.1 (i.val - 2))
    split <;> infer_instance

section Tables

variable (p : Ins F) (c : Dev nD) (k : Fin 6)

theorem duties_bar : (rd p).duties (barCell c) 0 = {true, false} := by
  dsimp only [rd]; rw [if_pos ⟨rfl, rfl⟩]; rfl
theorem duties_send : (rd p).duties (sendCell c k) 0 = {true} := by
  dsimp only [rd]; rw [if_pos ⟨rfl, rfl⟩, if_pos (by omega)]
theorem duties_recv : (rd p).duties (recvCell c k) 0 = {true} := by
  dsimp only [rd]; rw [if_pos ⟨rfl, rfl⟩, if_pos (by omega)]
/-- There is no second round. -/
theorem duties_later (g : GSem nD τ sig) : ∀ r, 0 + 1 ≤ r → (rd p).duties g r = ∅ :=
  fun r hr => by dsimp only [rd]; rw [if_neg (fun h => by omega)]

theorem amount_bar (d : Bool) : (rd p).amount (barCell c) 0 d = 1 := rfl
theorem amount_send (d : Bool) : (rd p).amount (sendCell c k) 0 d = N := rfl
theorem amount_recv (d : Bool) : (rd p).amount (recvCell c k) 0 d = N := rfl

theorem expect_bar : (rd p).expect (barCell c) 0 = 2 := by
  unfold Schedule.expect Schedule.amountOf; rw [duties_bar, Finset.sum_pair (by decide), amount_bar, amount_bar]
theorem expect_send : (rd p).expect (sendCell c k) 0 = N := by
  unfold Schedule.expect Schedule.amountOf; rw [duties_send, Finset.sum_singleton, amount_send]
theorem expect_recv : (rd p).expect (recvCell c k) 0 = N := by
  unfold Schedule.expect Schedule.amountOf; rw [duties_recv, Finset.sum_singleton, amount_recv]

theorem payload_bar_true : (rd p).payload (barCell c) 0 true = barPay c := rfl
theorem payload_bar_false : (rd p).payload (barCell c) 0 false = iprop(emp) := rfl
theorem payload_send : (rd p).payload (sendCell c k) 0 true = sendPay p c k := by
  have h : ¬ 8 ≤ 2 + k.val := by have := k.isLt; omega
  have e : 2 + k.val - 2 = k.val := by omega
  dsimp only [rd]; rw [if_neg h, e]
theorem payload_recv : (rd p).payload (recvCell c k) 0 true = recvPay p c k := by
  have h : 8 ≤ 8 + k.val := by omega
  have e : 8 + k.val - 8 = k.val := by omega
  dsimp only [rd]; rw [if_pos h, e]

theorem rest_bar : bigSep ((rd p).duties (barCell c) 0 \ ∅) (fun d => (rd p).payload (barCell c) 0 d) ⊢ barPay c := by
  rw [Finset.sdiff_empty, duties_bar]
  exact bigSep_elim (Φ := fun d => (rd p).payload (barCell c) 0 d) (by decide : true ∈ ({true, false} : Finset Bool))
theorem rest_send : bigSep ((rd p).duties (sendCell c k) 0 \ ∅) (fun d => (rd p).payload (sendCell c k) 0 d) = sendPay p c k := by
  rw [Finset.sdiff_empty, duties_send, bigSep_singleton, payload_send]
theorem rest_recv : bigSep ((rd p).duties (recvCell c k) 0 \ ∅) (fun d => (rd p).payload (recvCell c k) 0 d) = recvPay p c k := by
  rw [Finset.sdiff_empty, duties_recv, bigSep_singleton, payload_recv]

end Tables

/-! ## What a device owes, and the levels -/

/-- What device `c` owes with `n` transfers left: the units of the last `n` on the right neighbour's receive cells. -/
def owedN (c : Dev nD) : ℕ → CellTallies nD τ sig Unit
  | 0 => 0
  | n + 1 => owedN c n + tallyAt (recvCell (nxt c) ⟨5 - n, by omega⟩) () N

/-- At step `k` one transfer's units leave the debt. -/
theorem owedN_step (c : Dev nD) (k : Fin 6) : owedN c (6 - k.val) = owedN c (5 - k.val) + tallyAt (recvCell (nxt c) k) () N := by
  fin_cases k <;> rfl

/-- What device `c` owes at the start: all six transfers, and a barrier unit to each neighbour. -/
def O₀ (c : Dev nD) : CellTallies nD τ sig Unit := owedN c 6 + tallyAt (barCell (nxt c)) () 1 + tallyAt (barCell (prv c)) () 1

/-- Only TensorCore cells are ever waited on. -/
def L (g : GSem nD τ sig) : Finset Unit := if g.1.2 = .tc then {()} else ∅
/-- Local and send cells lowest, then the barrier, then the receive cells in the order of the steps. -/
def lv (g : GSem nD τ sig) (_ : Unit) : ℕ := match g.2 with
  | .reg _ => 1
  | .dma i => if 8 ≤ i.val then i.val - 6 else 0

theorem L_of_ne (g : GSem nD τ sig) (h : g.1.2 ≠ .tc) : L g = ∅ := if_neg h
theorem L_tc (c : Dev nD) (sm : SemLoc sig) : L ((c : Thread nD τ), sm) = {()} := if_pos rfl

/-- A device with `n` transfers left owes only on the receive cells of the last `n` steps. -/
theorem owedN_pos (c : Dev nD) (n : ℕ) (hn : n ≤ 6) (g : GSem nD τ sig) (u : Unit) (h : 0 < owedN c n g u) :
    ∃ j : Fin 6, 6 - n ≤ j.val ∧ g = recvCell (nxt c) j := by
  induction n with
  | zero => exact absurd h (Nat.lt_irrefl 0)
  | succ n ih =>
    have h' : 0 < owedN c n g u + tallyAt (recvCell (nxt c) ⟨5 - n, by omega⟩) () N g u := h
    rcases Nat.eq_zero_or_pos (owedN c n g u) with h0 | h0
    · rw [h0, Nat.zero_add, tallyAt_apply] at h'
      by_cases hg : g = recvCell (nxt c) ⟨5 - n, by omega⟩ ∧ u = ()
      · exact ⟨⟨5 - n, by omega⟩, by show 6 - (n + 1) ≤ 5 - n; omega, hg.1⟩
      · rw [if_neg hg] at h'; exact absurd h' (Nat.lt_irrefl 0)
    · obtain ⟨j, hj, e⟩ := ih (by omega) h0
      exact ⟨j, by omega, e⟩

/-- With `n` transfers left a device may wait on any of its cells of level at most `7 - n`. -/
theorem mayWait (c : Dev nD) (n : ℕ) (hn : n ≤ 6) (sm : SemLoc sig) (hl : lv ((c : Thread nD τ), sm) () ≤ 7 - n) :
    (levAts L lv : sProp 𝕄) ⊢ MayWait (c : Thread nD τ) sm () (owedN c n) :=
  MayOwe.of_cut (L := L) (lev := lv) (7 - n) (fun q hq => by rw [Finset.mem_singleton.mp hq, L_tc]; exact Finset.mem_singleton_self _)
    (fun g u hg => by
      obtain ⟨j, -, rfl⟩ := owedN_pos c n hn g u hg
      rw [L_tc]; exact Finset.mem_singleton_self _)
    (fun q hq => by rw [Finset.mem_singleton.mp hq]; exact hl)
    (fun g u hg => by
      obtain ⟨j, hj, rfl⟩ := owedN_pos c n hn g u hg
      show 7 - n < (if 8 ≤ 8 + j.val then 8 + j.val - 6 else 0)
      rw [if_pos (by omega)]; omega)

theorem mayWait_loc (c : Dev nD) (n : ℕ) (hn : n ≤ 6) (i : Fin 2) :
    (levAts L lv : sProp 𝕄) ⊢ MayWait (c : Thread nD τ) (.dma (locS i)) () (owedN c n) :=
  mayWait c n hn _ (by
    show (if 8 ≤ i.val then i.val - 6 else 0) ≤ 7 - n
    rw [if_neg (by have := i.isLt; omega)]; omega)
theorem mayWait_send (c : Dev nD) (n : ℕ) (hn : n ≤ 6) (k : Fin 6) :
    (levAts L lv : sProp 𝕄) ⊢ MayWait (c : Thread nD τ) (.dma (sendS k)) () (owedN c n) :=
  mayWait c n hn _ (by
    show (if 8 ≤ 2 + k.val then 2 + k.val - 6 else 0) ≤ 7 - n
    rw [if_neg (by have := k.isLt; omega)]; omega)
theorem mayWait_recv (c : Dev nD) (k : Fin 6) :
    (levAts L lv : sProp 𝕄) ⊢ MayWait (c : Thread nD τ) (.dma (recvS k)) () (owedN c (5 - k.val)) :=
  mayWait c _ (by omega) _ (by
    show (if 8 ≤ 8 + k.val then 8 + k.val - 6 else 0) ≤ 7 - (5 - k.val)
    rw [if_pos (by omega)]; have := k.isLt; omega)
theorem mayWait_bar (c : Dev nD) : (levAts L lv : sProp 𝕄) ⊢ MayWait (c : Thread nD τ) (.reg barS) () (owedN c 6) :=
  mayWait c 6 (by decide) _ (by show 1 ≤ 7 - 6; decide)

end Cert.KernelIdeal.Run

end
-- ==== Proof.Transfer.lean ====
/- One transfer of the ring on one device: the block handed to the transfer, the two waits, and what they bring. -/
module

public import proofs.«01_k».proof.Proof.Sched

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- The invariant of a cell, under the names `K`. -/
abbrev inv (p : Ins F) (K : GSem nD τ sig → ℕ) (g : GSem nD τ sig) : sProp 𝕄 := cellInv ER (rd p) (K g) g

/-- What every device knows: the invariants of all cells, and the levels. -/
def ctx (p : Ins F) (K : GSem nD τ sig → ℕ) : sProp 𝕄 :=
  iprop(bigSep (Finset.univ : Finset (Dev nD)) (fun c => inv p K (barCell c))
    ∗ bigSep (Finset.univ : Finset (Dev nD × Fin 6)) (fun x => inv p K (sendCell x.1 x.2))
    ∗ bigSep (Finset.univ : Finset (Dev nD × Fin 6)) (fun x => inv p K (recvCell x.1 x.2))
    ∗ levAts L lv)

section Facts

variable (p : Ins F) (K : GSem nD τ sig → ℕ) (c : Dev nD) (k : Fin 6)

omit [FloatOps F] in
theorem ctx_elim {A : Type} [Fintype A] (Φ : A → sProp 𝕄) (a : A) : bigSep Finset.univ Φ ⊢ Φ a := by
  classical exact bigSep_elim (Finset.mem_univ a)

instance ctx_persistent : BI.Persistent (ctx p K) := by unfold ctx; infer_instance

theorem ctx_bar : ctx p K ⊢ inv p K (barCell c) := by
  unfold ctx
  iintro ⟨H, -, -, -⟩
  iapply (ctx_elim (fun c : Dev nD => inv p K (barCell c)) c); iexact H
theorem ctx_send : ctx p K ⊢ inv p K (sendCell c k) := by
  unfold ctx
  iintro ⟨-, H, -, -⟩
  iapply (ctx_elim (fun x : Dev nD × Fin 6 => inv p K (sendCell x.1 x.2)) (c, k)); iexact H
theorem ctx_recv : ctx p K ⊢ inv p K (recvCell c k) := by
  unfold ctx
  iintro ⟨-, -, H, -⟩
  iapply (ctx_elim (fun x : Dev nD × Fin 6 => inv p K (recvCell x.1 x.2)) (c, k)); iexact H
theorem ctx_lev : ctx p K ⊢ levAts L lv := by
  unfold ctx
  iintro ⟨-, -, -, H⟩
  iexact H

theorem recvPay_rs (j : ℕ) (hj : j < 3) :
    recvPay p c j = iprop(At c (slotM ⟨j, hj⟩) (sv p j (prv c)) ∗ fwd (prv c) j ∗ tok (prv c) j) := by
  unfold recvPay recvAt; rw [dif_pos hj, if_pos hj]
theorem recvPay_ag (j : ℕ) (hj : ¬j < 3) :
    recvPay p c j = iprop(At c (outM (bk c (j + 1))) (sv p (j + 1) c) ∗ fwd (prv c) j ∗ emp) := by
  unfold recvPay recvAt; rw [dif_neg hj, if_neg hj, sv_pass p c j hj]
theorem sendPay_rs (j : ℕ) (hj : j < 3) : sendPay p c j = iprop(emp) := by unfold sendPay; rw [if_pos hj]
theorem sendPay_ag (j : ℕ) (hj : ¬j < 3) : sendPay p c j = At c (outM (bk c j)) (sv p j c) := by unfold sendPay; rw [if_neg hj]

/-- After its one round a cell is closed, its counter back at zero. -/
theorem close (g : GSem nD τ sig) : iprop(inv p K g ∗ atPos ER g (0 + 1) ∅ 0) ⊢ (|={Set.univ}=> semVal g 0 : sProp 𝕄) :=
  Rounds.cell_close ER (rd p) (Set.mem_univ (K g)) id (duties_later p g)

/-- What device `c` holds for its transfer of step `k`: its positions at its two cells, the duty it pays at its send cell and
    that at the right neighbour's receive cell, the units it will wait for, and that its send cell is ready. -/
def stepKit : sProp 𝕄 :=
  iprop(atPos ER (sendCell c k) 0 ∅ 0 ∗ atPos ER (recvCell c k) 0 ∅ 0 ∗ dutyTok ER (sendCell c k) 0 true
    ∗ dutyTok ER (recvCell (nxt c) k) 0 true ∗ cred (tallyAt (recvCell c k) () N) ∗ reached ER (sendCell c k) 0)

/-- What it has after: both counters at zero, and a debt without this transfer. -/
def stepDone : sProp 𝕄 :=
  iprop(semVal (sendCell c k) 0 ∗ semVal (recvCell c k) 0 ∗ ∃ W', owes (c : Thread nD τ) (owedN c (5 - k.val)) W')

/-- The two waits after the transfer is started. -/
theorem waits_run (src dst : Memref sig .tc .hbm S1024x8192 .bf16) (hs : src.view.WordExact) (hd : dst.view.WordExact)
    (hNs : src.view.dmaCredit = N) (hNd : dst.view.dmaCredit = N) (W : Waits sig Unit) (Q : PUnit → sProp 𝕄) :
    iprop(ctx p K ∗ atPos ER (sendCell c k) 0 ∅ 0 ∗ atPos ER (recvCell c k) 0 ∅ 0 ∗ cred (tallyAt (sendCell c k) () N)
        ∗ cred (tallyAt (recvCell c k) () N) ∗ owes (c : Thread nD τ) (owedN c (5 - k.val)) W
        ∗ (iprop(stepDone c k ∗ sendPay p c k ∗ recvPay p c k) -∗ Q ⟨⟩))
      ⊢ runs c (.op (.waitDma2 (sendS k) dst src hd hs) fun _ => .op (.waitDma2 (recvS k) src dst hs hd) .ret) Q := by
  iintro ⟨#HX, HatS, HatV, HcS, HcV, HO, Hk⟩
  unfold runs
  iapply (Rounds.wp_wait_rest_token 𝒱₀ ER (rd p) (c : Thread nD τ) none (κ := K (sendCell c k))
      (wpE_waitDma2_eq (src := dst) (dst := src) 𝒱₀ (c : Thread nD τ) none Set.univ) (Set.mem_univ _) () (O := owedN c (5 - k.val)) (W := W) (R := 0) (m := 0) (T := ∅)
      (((Nat.zero_add _).trans hNs).trans (expect_send p c k).symm)) $$ [HcS HO HatS]
  · isplitr; · iapply (ctx_send p K c k); iexact HX
    isplitl [HcS]; · iexact HcS
    isplitl [HO]; · iexact HO
    isplitr; · iapply (mayWait_send c (5 - k.val) (by omega) k); iapply (ctx_lev p K); iexact HX
    iexact HatS
  iintro ⟨HO, HatS, -, Hpay⟩
  ihave HpS := (Entails.of_eq (rest_send p c k)) $$ Hpay
  iapply (Rounds.wp_wait_rest_token 𝒱₀ ER (rd p) (c : Thread nD τ) none (κ := K (recvCell c k))
      (wpE_waitDma2_eq (src := src) (dst := dst) 𝒱₀ (c : Thread nD τ) none Set.univ) (Set.mem_univ _) () (O := owedN c (5 - k.val))
      (W := insert (SemLoc.dma (sendS k), ()) W) (R := 0) (m := 0) (T := ∅)
      (((Nat.zero_add _).trans hNd).trans (expect_recv p c k).symm)) $$ [HcV HO HatV]
  · isplitr; · iapply (ctx_recv p K c k); iexact HX
    isplitl [HcV]; · iexact HcV
    isplitl [HO]; · iexact HO
    isplitr; · iapply (mayWait_recv c k); iapply (ctx_lev p K); iexact HX
    iexact HatV
  iintro ⟨HO, HatV, -, Hpay⟩
  ihave HpV := (Entails.of_eq (rest_recv p c k)) $$ Hpay
  rw [wp_ret]
  imod (close p K (sendCell c k)) $$ [HatS] with Hs0
  · isplitr; · iapply (ctx_send p K c k); iexact HX
    iexact HatS
  imod (close p K (recvCell c k)) $$ [HatV] with Hv0
  · isplitr; · iapply (ctx_recv p K c k); iexact HX
    iexact HatV
  imodintro
  iapply Hk
  unfold stepDone
  isplitl [Hs0 Hv0 HO]
  · isplitl [Hs0]; · iexact Hs0
    isplitl [Hv0]; · iexact Hv0
    iexists _; iexact HO
  isplitl [HpS]; · iexact HpS
  iexact HpV

/-- A step of the first round, among the six. -/
abbrev lift3 (j : Fin 3) : Fin 6 := j.castLE (by decide)

/-- A transfer of the first round. The block goes with what is passed on; the slot arrives, with what the left neighbour passes. -/
theorem rs_run (j : Fin 3) (hk : k = lift3 j) (src : Memref sig .tc .hbm S1024x8192 .bf16)
    (hsrc : src = outM (bk c j.val)) (n : Dev nD) (hn : n = nxt c)
    (hs : src.view.WordExact) (hd : (slotM j).view.WordExact) (W : Waits sig Unit) (Q : PUnit → sProp 𝕄) :
    iprop(ctx p K ∗ stepKit c k ∗ At c (outM (bk c j.val)) (sv p j.val c) ∗ AnyAt (nxt c) (slotM j) ∗ fwd c j.val
        ∗ reached ER (recvCell (nxt c) k) 0 ∗ owes (c : Thread nD τ) (owedN c (6 - k.val)) W
        ∗ (iprop(stepDone c k ∗ At c (slotM j) (sv p j.val (prv c)) ∗ fwd (prv c) j.val ∗ tok (prv c) j.val) -∗ Q ⟨⟩))
      ⊢ runs c (sendStep F src (slotM j) n k hs hd) Q := by
  subst hsrc hn hk
  have hj : ((lift3 j)).val < 3 := j.isLt
  unfold sendStep stepKit AnyAt runs
  iintro ⟨#HX, ⟨HatS, HatV, HtS, HtN, HcV, #HrS⟩, Hs, ⟨%fd, Hd⟩, HF, #HrN, HO, Hk⟩
  ihave Hs := (At_open c (outM (bk c j.val)) (sv p j.val c)) $$ Hs
  icases Hs with ⟨%fs, %hfs, Hs⟩
  iapply (wp_send_landing_pointsTo_with 𝒱₀ ER (rd p) (c : Thread nD τ) none (c' := (nxt c : Thread nD τ)) (src := outM (bk c j.val)) (dst := slotM j)
      (sS := .dma (sendS (lift3 j))) (sem := .dma (recvS (lift3 j))) (q := fullShare) (fs := fs) (fd := fd)
      (κ₁ := K (sendCell c (lift3 j))) (κ₂ := K (recvCell (nxt c) (lift3 j)))
      (r₁ := 0) (r₂ := 0) (d₁ := true) (d₂ := true) (F := fwd c j.val)
      (by rw [duties_send]; exact Finset.mem_singleton_self _) (by rw [duties_recv]; exact Finset.mem_singleton_self _)
      () () N rfl (amount_send p c _ true) (amount_recv p (nxt c) _ true) (owedN c (5 - (lift3 j).val)) (owedN_step c _) (W := W)
      (by rw [payload_send, sendPay_rs p c _ hj])
      (by
        rw [payload_recv, recvPay_rs p (nxt c) _ hj, prv_nxt]
        iintro ⟨⟨Hd, HF⟩, Hs⟩
        isplitl [Hd]
        · iapply (At_written (nxt c) (slotM j) (sv p j.val c) fd); rw [← hfs]; iexact Hd
        isplitl [HF]; · iexact HF
        unfold tok AnyAt; iexists _; iexact Hs)) $$ [Hs Hd HF HO HtS HtN]
  · isplitr; · iapply (ctx_send p K c _); iexact HX
    isplitr; · iapply (ctx_recv p K (nxt c) _); iexact HX
    isplitl [Hs]; · iexact Hs
    isplitl [Hd HF]
    · isplitl [Hd]; · iexact Hd
      iexact HF
    isplitl [HO]; · iexact HO
    isplitl [HtS]; · iexact HtS
    isplitr; · iexact HrS
    isplitl [HtN]; · iexact HtN
    iexact HrN
  iintro ⟨HcS, HO⟩
  iapply (waits_run p K c (lift3 j) (outM (bk c j.val)) (slotM j) hs hd rfl rfl W Q)
  isplitr; · iexact HX
  isplitl [HatS]; · iexact HatS
  isplitl [HatV]; · iexact HatV
  isplitl [HcS]; · iexact HcS
  isplitl [HcV]; · iexact HcV
  isplitl [HO]; · iexact HO
  iintro ⟨HD, -, Hr⟩
  iapply Hk
  isplitl [HD]; · iexact HD
  ihave Hr := (Entails.of_eq (recvPay_rs p c _ hj)) $$ Hr
  iexact Hr

/-- A transfer of the second round. The block comes back when it is sent; the next block arrives. -/
theorem ag_run (hk : ¬k.val < 3) (src dst : Memref sig .tc .hbm S1024x8192 .bf16)
    (hsrc : src = outM (bk c k.val)) (hdst : dst = outM (bk c k.val)) (n : Dev nD) (hn : n = nxt c)
    (hs : src.view.WordExact) (hd : dst.view.WordExact) (W : Waits sig Unit) (Q : PUnit → sProp 𝕄) :
    iprop(ctx p K ∗ stepKit c k ∗ At c (outM (bk c k.val)) (sv p k.val c) ∗ AnyAt (nxt c) (outM (bk c k.val)) ∗ fwd c k.val
        ∗ reached ER (recvCell (nxt c) k) 0 ∗ owes (c : Thread nD τ) (owedN c (6 - k.val)) W
        ∗ (iprop(stepDone c k ∗ At c (outM (bk c k.val)) (sv p k.val c) ∗ At c (outM (bk c (k.val + 1))) (sv p (k.val + 1) c)
            ∗ fwd (prv c) k.val) -∗ Q ⟨⟩))
      ⊢ runs c (sendStep F src dst n k hs hd) Q := by
  subst hsrc hdst hn
  unfold sendStep stepKit AnyAt runs
  iintro ⟨#HX, ⟨HatS, HatV, HtS, HtN, HcV, #HrS⟩, Hs, ⟨%fd, Hd⟩, HF, #HrN, HO, Hk⟩
  ihave Hs := (At_open c (outM (bk c k.val)) (sv p k.val c)) $$ Hs
  icases Hs with ⟨%fs, %hfs, Hs⟩
  iapply (wp_send_pointsTo_with 𝒱₀ ER (rd p) (c : Thread nD τ) none (c' := (nxt c : Thread nD τ)) (src := outM (bk c k.val)) (dst := outM (bk c k.val))
      (sS := .dma (sendS k)) (sem := .dma (recvS k)) (q := fullShare) (fs := fs) (fd := fd)
      (κ₁ := K (sendCell c k)) (κ₂ := K (recvCell (nxt c) k))
      (r₁ := 0) (r₂ := 0) (d₁ := true) (d₂ := true) (F := fwd c k.val)
      (by rw [duties_send]; exact Finset.mem_singleton_self _) (by rw [duties_recv]; exact Finset.mem_singleton_self _)
      () () N rfl (amount_send p c k true) (amount_recv p (nxt c) k true) (owedN c (5 - k.val)) (owedN_step c k) (W := W)
      (by
        rw [payload_send, sendPay_ag p c _ hk, ← hfs]
        exact At_intro c (outM (bk c k.val)) fs)
      (by
        rw [payload_recv, recvPay_ag p (nxt c) _ hk, sv_pass p (nxt c) _ hk, prv_nxt, bk_nxt_succ]
        iintro ⟨Hd, HF⟩
        isplitl [Hd]
        · iapply (At_written (nxt c) (outM (bk c k.val)) (sv p k.val c) fd); rw [← hfs]; iexact Hd
        isplitl [HF]; · iexact HF
        iempintro)) $$ [Hs Hd HF HO HtS HtN]
  · isplitr; · iapply (ctx_send p K c _); iexact HX
    isplitr; · iapply (ctx_recv p K (nxt c) _); iexact HX
    isplitl [Hs]; · iexact Hs
    isplitl [Hd HF]
    · isplitl [Hd]; · iexact Hd
      iexact HF
    isplitl [HO]; · iexact HO
    isplitl [HtS]; · iexact HtS
    isplitr; · iexact HrS
    isplitl [HtN]; · iexact HtN
    iexact HrN
  iintro ⟨HcS, HO⟩
  iapply (waits_run p K c k (outM (bk c k.val)) (outM (bk c k.val)) hs hd rfl rfl W Q)
  isplitr; · iexact HX
  isplitl [HatS]; · iexact HatS
  isplitl [HatV]; · iexact HatV
  isplitl [HcS]; · iexact HcS
  isplitl [HcV]; · iexact HcV
  isplitl [HO]; · iexact HO
  iintro ⟨HD, Hs, Hr⟩
  iapply Hk
  isplitl [HD]; · iexact HD
  ihave Hs := (Entails.of_eq (sendPay_ag p c _ hk)) $$ Hs
  ihave Hr := (Entails.of_eq (recvPay_ag p c _ hk)) $$ Hr
  icases Hr with ⟨Hb, HF, -⟩
  isplitl [Hs]; · iexact Hs
  isplitl [Hb]; · iexact Hb
  iexact HF

end Facts

end Cert.KernelIdeal.Run

end
-- ==== Proof.Steps.lean ====
/- The steps of the kernel on one device, each followed by the rest of the program: the barrier, a step of the first round with
   its accumulation, a step of the second round. -/
module

public import proofs.«01_k».proof.Proof.Transfer

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section Steps

variable (p : Ins F) (K : GSem nD τ sig → ℕ) (c : Dev nD)

/-- Running a step and then the rest is running the step to the run of the rest. -/
theorem runs_bind (s : KProg F) (k : PUnit → KProg F) (Q : PUnit → sProp 𝕄) :
    runs c s (fun u => runs c (k u) Q) ⊢ runs c (s >>= k) Q :=
  Entails.of_eq (wp_bind frame _ Set.univ s k Q).symm

/-- What device `c` owes, with whatever waits it has recorded. -/
def debt (n : ℕ) : sProp 𝕄 := iprop(∃ W, owes (c : Thread nD τ) (owedN c n) W)

/-! ## The barrier -/

/-- What device `c` brings to the barrier. -/
def barKit : sProp 𝕄 :=
  iprop(atPos ER (barCell c) 0 ∅ 0 ∗ dutyTok ER (barCell (prv c)) 0 true ∗ dutyTok ER (barCell (nxt c)) 0 false
    ∗ reached ER (barCell (prv c)) 0 ∗ reached ER (barCell (nxt c)) 0 ∗ cred (tallyAt (barCell c) () 2))

/-- The three slots of device `c`, at any contents. -/
def slots : sProp 𝕄 := iprop(AnyAt c (slotM 0) ∗ AnyAt c (slotM 1) ∗ AnyAt c (slotM 2))

theorem signal_eq (l : Dev nD) : (semSignalWord l barS 1#32 : KProg F) = .op (.semSignal (l : Thread nD τ) barS ((1 : ℕ) : ℤ)) .ret := rfl
theorem wait_eq : (semWaitWord barS 2#32 : KProg F) = .op (.semWait barS ((2 : ℕ) : ℤ)) .ret := rfl

/-- At the barrier device `c` gives its slots to the left neighbour and gets the right neighbour's. -/
theorem barrier_run (l r : Dev nD) (hl : l = prv c) (hr : r = nxt c) (W : Waits sig Unit) (Q : PUnit → sProp 𝕄) :
    iprop(ctx p K ∗ barKit c ∗ slots c ∗ ready c ∗ owes (c : Thread nD τ) (O₀ c) W
        ∗ (iprop(semVal (barCell c) 0 ∗ slots (nxt c) ∗ ready (nxt c) ∗ debt c 6) -∗ Q ⟨⟩))
      ⊢ runs c (barrier F l r) Q := by
  subst hl hr
  unfold barrier barKit slots
  rw [signal_eq, signal_eq, wait_eq]
  iintro ⟨#HX, ⟨Hat, HtP, HtN, #HrP, #HrN, Hc⟩, ⟨Hs0, Hs1, Hs2⟩, #HR, HO, Hk⟩
  iapply (runs_bind c _ _ Q)
  unfold runs
  iapply (Rounds.wp_signal 𝒱₀ ER (rd p) (c : Thread nD τ) none (dst := (prv c : Thread nD τ)) (sem := barS) (r := 0) (d := true) (k' := 1)
      (κ := K (barCell (prv c)))
      (by rw [duties_bar]; exact Finset.mem_insert_self _ _) (amount_bar p (prv c) true) () (owedN c 6 + tallyAt (barCell (nxt c)) () 1) rfl)
    $$ [HO HtP Hs0 Hs1 Hs2]
  · isplitr; · iapply (ctx_bar p K (prv c)); iexact HX
    isplitl [HO]; · iexact HO
    isplitl [HtP]; · iexact HtP
    isplitl [Hs0 Hs1 Hs2]
    · rw [payload_bar_true]; unfold barPay; rw [nxt_prv]
      isplitl [Hs0 Hs1 Hs2]
      · isplitl [Hs0]; · iexact Hs0
        isplitl [Hs1]; · iexact Hs1
        iexact Hs2
      iexact HR
    · iexact HrP
  iintro HO
  rw [wp_ret]
  imodintro
  iapply (runs_bind c _ _ Q)
  unfold runs
  iapply (Rounds.wp_signal 𝒱₀ ER (rd p) (c : Thread nD τ) none (dst := (nxt c : Thread nD τ)) (sem := barS) (r := 0) (d := false) (k' := 1)
      (κ := K (barCell (nxt c)))
      (by rw [duties_bar]; decide) (amount_bar p (nxt c) false) () (owedN c 6) rfl)
    $$ [HO HtN]
  · isplitr; · iapply (ctx_bar p K (nxt c)); iexact HX
    isplitl [HO]; · iexact HO
    isplitl [HtN]; · iexact HtN
    isplitr
    · rw [payload_bar_false]; iempintro
    · iexact HrN
  iintro HO
  rw [wp_ret]
  imodintro
  iapply (Rounds.wp_wait_rest_token 𝒱₀ ER (rd p) (c : Thread nD τ) none (κ := K (barCell c))
      (wpE_semWait_eq 𝒱₀ (c : Thread nD τ) none Set.univ) (Set.mem_univ _) () (O := owedN c 6) (W := W) (R := 0) (m := 0) (T := ∅)
      ((Nat.zero_add 2).trans (expect_bar p c).symm)) $$ [Hc HO Hat]
  · isplitr; · iapply (ctx_bar p K c); iexact HX
    isplitl [Hc]; · iexact Hc
    isplitl [HO]; · iexact HO
    isplitr; · iapply (mayWait_bar c); iapply (ctx_lev p K); iexact HX
    iexact Hat
  iintro ⟨HO, Hat, -, Hpay⟩
  ihave Hp := (rest_bar p c) $$ Hpay
  unfold barPay
  icases Hp with ⟨Hs, #HRN⟩
  rw [wp_ret]
  imod (close p K (barCell c)) $$ [Hat] with Hb0
  · isplitr; · iapply (ctx_bar p K c); iexact HX
    iexact Hat
  imodintro
  iapply Hk
  isplitl [Hb0]; · iexact Hb0
  isplitl [Hs]; · iexact Hs
  isplitr; · iexact HRN
  unfold debt
  iexists _; iexact HO

/-! ## The accumulation -/

/-- The scratch buffers at any contents and the local semaphores at zero. -/
def locals : sProp 𝕄 :=
  iprop(AnyAt c scA ∗ AnyAt c scB ∗ semVal (locCell c 0) 0 ∗ semVal (locCell c 1) 0)

/-- A half's accumulation, as the kernel names its pieces. -/
theorem acc_half (k : Fin 3) (j : Fin 2) (pay : Vec F S512x8192 .bf16 → Vec F S512x8192 .bf16 → FVec F S512x8192 .bf16)
    (hpay : ∀ a b, pay a b = addRnd a b) (v w : S512x8192.Idx → Elt F .bf16) (n : ℕ) (hn : n ≤ 6) (Q : PUnit → sProp 𝕄) :
    iprop(ctx p K ∗ At c (outH (bk c (k.val + 1)) j) v ∗ At c (slotH k j) w ∗ locals c ∗ debt c n
        ∗ (iprop(At c (outH (bk c (k.val + 1)) j) (addRnd v w) ∗ At c (slotH k j) w ∗ locals c ∗ debt c n) -∗ Q ⟨⟩))
      ⊢ runs c (accStep pay c k j) Q := by
  have he : outHAt (k0_off2 c (BitVec.ofNat 32 k.val) (BitVec.ofNat 32 (512 * j.val))) (k0_off2_inb c k j) = outH (bk c (k.val + 1)) j :=
    Memref.slice_unit_congr _ (off2_eq c k j) _ _ _ _
  have go : ∀ (o : Memref sig .tc .hbm S512x8192 .bf16) (_ : o = outH (bk c (k.val + 1)) j) (ho : o.view.WordExact),
      iprop(ctx p K ∗ At c (outH (bk c (k.val + 1)) j) v ∗ At c (slotH k j) w ∗ locals c ∗ debt c n
        ∗ (iprop(At c (outH (bk c (k.val + 1)) j) (addRnd v w) ∗ At c (slotH k j) w ∗ locals c ∗ debt c n) -∗ Q ⟨⟩))
      ⊢ runs c (halfStep pay o (slotH k j) ho (slotH_exact k j) (locS 0) (locS 1)) Q := by
    intro o h ho
    subst h
    unfold locals debt
    iintro ⟨#HX, Ho, Hr, ⟨HA, HB, Hv0, Hv1⟩, ⟨%W, HO⟩, Hk⟩
    iapply (halfStep_run c pay hpay _ (slotH k j) ho (slotH_exact k j) (locS 0) (locS 1) v w (owedN c n) W (ctx p K)
      ((ctx_lev p K).trans (mayWait_loc c n hn 0)) ((ctx_lev p K).trans (mayWait_loc c n hn 1)) Q)
    isplitr; · iexact HX
    isplitl [Ho]; · iexact Ho
    isplitl [Hr]; · iexact Hr
    isplitl [HA]; · iexact HA
    isplitl [HB]; · iexact HB
    isplitl [Hv0]; · iexact Hv0
    isplitl [Hv1]; · iexact Hv1
    isplitl [HO]; · iexact HO
    iintro ⟨Ho, Hr, HA, HB, Hv0, Hv1, HO⟩
    iapply Hk
    isplitl [Ho]; · iexact Ho
    isplitl [Hr]; · iexact Hr
    isplitl [HA HB Hv0 Hv1]
    · isplitl [HA]; · iexact HA
      isplitl [HB]; · iexact HB
      isplitl [Hv0]; · iexact Hv0
      iexact Hv1
    iexact HO
  exact go _ he _

/-- Both halves: the slot is added onto the block. -/
theorem acc_run (k : Fin 3) (pA pB : Vec F S512x8192 .bf16 → Vec F S512x8192 .bf16 → FVec F S512x8192 .bf16)
    (hA : ∀ a b, pA a b = addRnd a b) (hB : ∀ a b, pB a b = addRnd a b) (v w : S1024x8192.Idx → Elt F .bf16) (n : ℕ) (hn : n ≤ 6)
    (rest : PUnit → KProg F) (Q : PUnit → sProp 𝕄) :
    iprop(ctx p K ∗ At c (outM (bk c (k.val + 1))) v ∗ At c (slotM k) w ∗ locals c ∗ debt c n
        ∗ (iprop(At c (outM (bk c (k.val + 1))) (addRnd v w) ∗ At c (slotM k) w ∗ locals c ∗ debt c n) -∗ runs c (rest ⟨⟩) Q))
      ⊢ runs c (accStep pA c k 0 >>= fun _ => accStep pB c k 1 >>= rest) Q := by
  iintro ⟨#HX, Ho, Hr, HL, HD, Hk⟩
  ihave Ho := (outM_split c (bk c (k.val + 1)) v).1 $$ Ho
  icases Ho with ⟨Ho0, Ho1⟩
  ihave Hr := (slotM_split c k w).1 $$ Hr
  icases Hr with ⟨Hr0, Hr1⟩
  iapply (runs_bind c _ _ Q)
  iapply (acc_half p K c k 0 pA hA (hOf 0 v) (hOf 0 w) n hn)
  isplitr; · iexact HX
  isplitl [Ho0]; · iexact Ho0
  isplitl [Hr0]; · iexact Hr0
  isplitl [HL]; · iexact HL
  isplitl [HD]; · iexact HD
  iintro ⟨Ho0, Hr0, HL, HD⟩
  iapply (runs_bind c _ _ Q)
  iapply (acc_half p K c k 1 pB hB (hOf 1 v) (hOf 1 w) n hn)
  isplitr; · iexact HX
  isplitl [Ho1]; · iexact Ho1
  isplitl [Hr1]; · iexact Hr1
  isplitl [HL]; · iexact HL
  isplitl [HD]; · iexact HD
  iintro ⟨Ho1, Hr1, HL, HD⟩
  iapply Hk
  isplitl [Ho0 Ho1]
  · iapply (outM_split c (bk c (k.val + 1)) (addRnd v w)).2
    isplitl [Ho0]; · iexact Ho0
    iexact Ho1
  isplitl [Hr0 Hr1]
  · iapply (slotM_split c k w).2
    isplitl [Hr0]; · iexact Hr0
    iexact Hr1
  isplitl [HL]; · iexact HL
  iexact HD

/-! ## The two kinds of step -/

/-- The counters of step `k`, at zero. -/
def sems (k : Fin 6) : sProp 𝕄 := iprop(semVal (sendCell c k) 0 ∗ semVal (recvCell c k) 0)

/-- A step of the first round: the block in hand goes, the next block becomes the sum in hand. -/
theorem rs_step (j : Fin 3) (pA pB : Vec F S512x8192 .bf16 → Vec F S512x8192 .bf16 → FVec F S512x8192 .bf16)
    (hA : ∀ a b, pA a b = addRnd a b) (hB : ∀ a b, pB a b = addRnd a b) (n : Dev nD) (hn : n = nxt c)
    (rest : PUnit → KProg F) (Q : PUnit → sProp 𝕄) :
    iprop(ctx p K ∗ stepKit c (lift3 j) ∗ At c (outM (bk c j.val)) (sv p j.val c)
        ∗ At c (outM (bk c (j.val + 1))) (blkOf (bk c (j.val + 1)) (p c)) ∗ AnyAt (nxt c) (slotM j) ∗ fwd c j.val
        ∗ ready (nxt c) ∗ locals c ∗ debt c (6 - j.val)
        ∗ (iprop(sems c (lift3 j) ∗ At c (outM (bk c (j.val + 1))) (sv p (j.val + 1) c) ∗ At c (slotM j) (sv p j.val (prv c)) ∗ fwd (prv c) j.val
            ∗ tok (prv c) j.val ∗ locals c ∗ debt c (5 - j.val)) -∗ runs c (rest ⟨⟩) Q))
      ⊢ runs c (rsStep F c n j >>= fun _ => accStep pA c j 0 >>= fun _ => accStep pB c j 1 >>= rest) Q := by
  unfold debt
  iintro ⟨#HX, Hkit, Hs, Hb, Hd, HF, #HR, HL, ⟨%W, HO⟩, Hk⟩
  iapply (runs_bind c _ _ Q)
  iapply (rs_run p K c (lift3 j) j rfl _ (Memref.slice_unit_congr _ (off1_eq c j) _ _ _ _) n hn _ _ W)
  isplitr; · iexact HX
  isplitl [Hkit]; · iexact Hkit
  isplitl [Hs]; · iexact Hs
  isplitl [Hd]; · iexact Hd
  isplitl [HF]; · iexact HF
  isplitr
  · unfold ready
    iapply (ctx_elim (fun k : Fin 6 => reached ER (recvCell (nxt c) k) 0) (lift3 j)); iexact HR
  isplitl [HO]; · iexact HO
  unfold stepDone
  iintro ⟨⟨Hs0, Hv0, HO⟩, Hr, HF, Ht⟩
  iapply (acc_run p K c j pA pB hA hB (blkOf (bk c (j.val + 1)) (p c)) (sv p j.val (prv c)) (5 - j.val) (by omega) rest Q)
  isplitr; · iexact HX
  isplitl [Hb]; · iexact Hb
  isplitl [Hr]; · iexact Hr
  isplitl [HL]; · iexact HL
  isplitl [HO]; · unfold debt; iexact HO
  iintro ⟨Hb, Hr, HL, HO⟩
  iapply Hk
  isplitl [Hs0 Hv0]
  · unfold sems
    isplitl [Hs0]; · iexact Hs0
    iexact Hv0
  isplitl [Hb]
  · rw [sv_acc p c j.val j.isLt]; iexact Hb
  isplitl [Hr]; · iexact Hr
  isplitl [HF]; · iexact HF
  isplitl [Ht]; · iexact Ht
  isplitl [HL]; · iexact HL
  unfold debt; iexact HO

/-- The step of the second round that starts from block `bk c (t + 3)`. -/
abbrev late3 (t : Fin 3) : Fin 6 := ⟨t.val + 3, by have := t.isLt; omega⟩

/-- A step of the second round: the block in hand is sent and stays, the next block arrives. -/
theorem ag_step (t : Fin 3) (n : Dev nD) (hn : n = nxt c) (Q : PUnit → sProp 𝕄) :
    iprop(ctx p K ∗ stepKit c (late3 t) ∗ At c (outM (bk c (t.val + 3))) (sv p (t.val + 3) c)
        ∗ AnyAt (nxt c) (outM (bk c (t.val + 3))) ∗ fwd c (t.val + 3) ∗ ready (nxt c) ∗ debt c (6 - (t.val + 3))
        ∗ (iprop(sems c (late3 t) ∗ At c (outM (bk c (t.val + 3))) (sv p (t.val + 3) c)
            ∗ At c (outM (bk c (t.val + 3 + 1))) (sv p (t.val + 3 + 1) c) ∗ fwd (prv c) (t.val + 3) ∗ debt c (5 - (t.val + 3))) -∗ Q ⟨⟩))
      ⊢ runs c (agStep F c n t) Q := by
  unfold debt
  iintro ⟨#HX, Hkit, Hs, Hd, HF, #HR, ⟨%W, HO⟩, Hk⟩
  iapply (ag_run p K c (late3 t) (by show ¬(t.val + 3 < 3); omega) _ _ (Memref.slice_unit_congr _ (off3_eq c t) _ _ _ _)
    (Memref.slice_unit_congr _ (off3_eq c t) _ _ _ _) n hn _ _ W)
  isplitr; · iexact HX
  isplitl [Hkit]; · iexact Hkit
  isplitl [Hs]; · iexact Hs
  isplitl [Hd]; · iexact Hd
  isplitl [HF]; · iexact HF
  isplitr
  · unfold ready
    iapply (ctx_elim (fun k : Fin 6 => reached ER (recvCell (nxt c) k) 0) (late3 t)); iexact HR
  isplitl [HO]; · iexact HO
  unfold stepDone
  iintro ⟨⟨Hs0, Hv0, HO⟩, Hb, Hr, HF⟩
  iapply Hk
  isplitl [Hs0 Hv0]
  · unfold sems
    isplitl [Hs0]; · iexact Hs0
    iexact Hv0
  isplitl [Hb]; · iexact Hb
  isplitl [Hr]; · iexact Hr
  isplitl [HF]; · iexact HF
  iexact HO

end Steps

end Cert.KernelIdeal.Run

end
-- ==== Proof.Whole.lean ====
/- The whole result as its four blocks, the whole of the arrival buffer as its three slots; and the array all devices end with. -/
module

public import proofs.«01_k».proof.Proof.Steps

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

/-! ## Blocks -/

omit [FloatOps F] in
/-- A block, read, is the block of the whole read. -/
theorem outM_read (b : Fin 4) (f : main_v3_0.ty.Contents (Elt F)) :
    (outM b).view.read (Elt F) f = blkOf b ((Memref.whole main_v3_0).view.read (Elt F) f) := by
  rw [View.read_whole]
  funext x
  show f _ = f _
  congr 1
  funext a
  apply Fin.ext
  fin_cases a
  · show 1024 * b.val + 1 * (x 0).val = 1024 * b.val + (x 0).val; omega
  · show 0 + 1 * (x 1).val = (x 1).val; omega

/-- Every element is in one of the four blocks a device meets. -/
theorem outM_cover (c : Dev nD) :
    (Memref.whole main_v3_0).view.set = (Finset.univ : Finset (Fin 4)).biUnion fun k => (outM (bk c k.val)).view.set := by
  rw [View.set_whole]
  ext i
  have hi : (i 0).val < 4096 := (i 0).isLt
  have hi1 : (i 1).val < 8192 := (i 1).isLt
  obtain ⟨k, hk⟩ := (bk_bijective c).2 (⟨(i 0).val / 1024, by omega⟩ : Fin 4)
  simp only [Finset.mem_univ, Finset.mem_biUnion, true_and, true_iff]
  refine ⟨k, ?_⟩
  rw [show bk c k.val = _ from hk, outM_set, Rect.mem_set_unit, Fin.forall_fin_two]
  show (1024 * ((i 0).val / 1024) ≤ (i 0).val ∧ (i 0).val < 1024 * ((i 0).val / 1024) + 1024) ∧ (0 ≤ (i 1).val ∧ (i 1).val < 0 + 8192)
  omega

theorem outM_apart (c : Dev nD) : ∀ k ∈ (Finset.univ : Finset (Fin 4)), ∀ k' ∈ (Finset.univ : Finset (Fin 4)), k ≠ k' →
    Disjoint (outM (bk c k.val)).view.set (outM (bk c k'.val)).view.set :=
  fun _ _ _ _ h => outM_disjoint fun e => h ((bk_bijective c).1 e)

omit [FloatOps F] in
/-- Two arrays with the same blocks are the same. -/
theorem blkOf_ext {α : Type} {v w : S4096x8192.Idx → α} (h : ∀ b, blkOf b v = blkOf b w) : v = w := by
  funext i
  have hi : (i 0).val < 4096 := (i 0).isLt
  have := congrFun (h (⟨(i 0).val / 1024, by omega⟩ : Fin 4)) (ix2 (⟨(i 0).val % 1024, by omega⟩ : Fin 1024) (i 1))
  have e : ix2 (⟨1024 * ((i 0).val / 1024) + (i 0).val % 1024, by omega⟩ : Fin 4096) (i 1) = i := by
    funext a; fin_cases a
    · apply Fin.ext; show 1024 * ((i 0).val / 1024) + (i 0).val % 1024 = (i 0).val; omega
    · rfl
  rw [← e]
  exact this

omit [FloatOps F] in
/-- Facts about all the summands come out of a big separating conjunction. -/
theorem bigSep_facts {T : Type} [DecidableEq T] (S : Finset T) (φ : T → Prop) (P : T → sProp 𝕄) :
    bigSep S (fun t => iprop(⌜φ t⌝ ∗ P t)) ⊢ iprop(⌜∀ t ∈ S, φ t⌝ ∗ bigSep S P) := by
  induction S using Finset.induction_on with
  | empty =>
    rw [bigSep_empty, bigSep_empty]; iintro H
    isplitr
    · ipureintro; intro t ht; exact absurd ht (Finset.notMem_empty t)
    iexact H
  | insert a S ha ih =>
    have e : bigSep (insert a S) (fun t => iprop(⌜φ t⌝ ∗ P t)) = iprop((⌜φ a⌝ ∗ P a) ∗ bigSep S (fun t => iprop(⌜φ t⌝ ∗ P t))) :=
      bigSep_insert ha
    have e' : bigSep (insert a S) P = iprop(P a ∗ bigSep S P) := bigSep_insert ha
    rw [e, e']
    iintro ⟨⟨%h, Ha⟩, HS⟩
    ihave HS := ih $$ HS
    icases HS with ⟨%hS, HS⟩
    isplitr
    · ipureintro; intro t ht
      rcases Finset.mem_insert.mp ht with rfl | ht
      · exact h
      · exact hS t ht
    isplitl [Ha]; · iexact Ha
    iexact HS

omit [FloatOps F] in
/-- Disjoint parts of one buffer, each with a fact about its contents that only reads that part, join to contents with all the facts. -/
theorem parts_join {ℓ : Loc nD τ sig} {T : Type} [Fintype T] [DecidableEq T] (t₀ : T) (I : T → Finset (Idx ℓ)) (f₀ : Buf (Elt F) ℓ)
    (hd : ∀ t ∈ (Finset.univ : Finset T), ∀ t' ∈ (Finset.univ : Finset T), t ≠ t' → Disjoint (I t) (I t'))
    (φ : T → Buf (Elt F) ℓ → Prop) (hφ : ∀ t f g, (∀ i ∈ I t, g i = f i) → φ t f → φ t g) :
    bigSep Finset.univ (fun t => iprop(∃ f : Buf (Elt F) ℓ, ⌜φ t f⌝ ∗ (ℓ ↦[I t]{fullShare} f)))
      ⊢ (iprop(∃ g : Buf (Elt F) ℓ, ⌜∀ t, φ t g⌝ ∗ (ℓ ↦[Finset.univ.biUnion I]{fullShare} g)) : sProp 𝕄) := by
  haveI : Nonempty (Buf (Elt F) ℓ) := ⟨f₀⟩
  iintro H
  ihave H := (bigSep_exists_pi (Finset.univ : Finset T) (fun t (f : Buf (Elt F) ℓ) => iprop(⌜φ t f⌝ ∗ (ℓ ↦[I t]{fullShare} f)))) $$ H
  icases H with ⟨%fs, H⟩
  ihave H := (bigSep_facts (Finset.univ : Finset T) (fun t => φ t (fs t)) (fun t => (ℓ ↦[I t]{fullShare} fs t))) $$ H
  icases H with ⟨%hf, H⟩
  ihave H := (pointsTo_biUnion_join (Finset.univ : Finset T) I fs f₀ hd) $$ H
  icases H with ⟨%g, %hg, H⟩
  iexists g
  isplitr
  · ipureintro; intro t
    exact hφ t (fs t) g (hg t (Finset.mem_univ t)) (hf t (Finset.mem_univ t))
  iexact H

/-- The result as its four blocks; -/
theorem out_split (c : Dev nD) (w : S4096x8192.Idx → Elt F .bf16) :
    At c (Memref.whole main_v3_0) w ⊢
      (bigSep (Finset.univ : Finset (Fin 4)) fun k => At c (outM (bk c k.val)) (blkOf (bk c k.val) w) : sProp 𝕄) := by
  iintro H
  ihave H := (At_open c _ w) $$ H
  icases H with ⟨%f, %hf, H⟩
  ihave H := (Entails.of_eq (congrArg (fun I => ((Memref.whole main_v3_0).view.loc (c : Thread nD τ) ↦[I]{fullShare} f : sProp 𝕄)) (outM_cover c))) $$ H
  ihave H := (Entails.of_eq (pointsTo_biUnion (q := fullShare) (f := f) _ _ (outM_apart c))) $$ H
  have hm : bigSep (Finset.univ : Finset (Fin 4)) (fun k => ((Memref.whole main_v3_0).view.loc (c : Thread nD τ)
      ↦[(outM (bk c k.val)).view.set]{fullShare} f : sProp 𝕄)) ⊢
      bigSep (Finset.univ : Finset (Fin 4)) (fun k => At c (outM (bk c k.val)) (blkOf (bk c k.val) w)) :=
    bigSep_mono fun k _ => by rw [← hf, ← outM_read]; exact At_intro c (outM (bk c k.val)) f
  iapply hm
  iexact H

/-- and joined back. -/
theorem out_join (c : Dev nD) (w : S4096x8192.Idx → Elt F .bf16) :
    (bigSep (Finset.univ : Finset (Fin 4)) fun k => At c (outM (bk c k.val)) (blkOf (bk c k.val) w) : sProp 𝕄) ⊢
      At c (Memref.whole main_v3_0) w := by
  unfold At
  rw [outM_cover c]
  iintro H
  ihave H := (parts_join (F := F) (ℓ := (c : Thread nD τ).loc main_v3_0) (0 : Fin 4) (fun k => (outM (bk c k.val)).view.set) w (outM_apart c)
    (fun k f => (outM (bk c k.val)).view.read (Elt F) f = blkOf (bk c k.val) w)
    (fun k f g h e => (View.read_congr h).trans e)) $$ H
  icases H with ⟨%g, %hg, H⟩
  iexists g
  isplitr
  · ipureintro
    refine blkOf_ext fun b => ?_
    obtain ⟨k, hk⟩ := (bk_bijective c).2 b
    rw [← outM_read, ← hk]; exact hg k
  iexact H

/-- The arrival buffer as its three slots. -/
theorem slotM_cover :
    (Memref.whole main_v3_1).view.set = (Finset.univ : Finset (Fin 3)).biUnion fun k => (slotM k).view.set := by
  rw [View.set_whole]
  ext i
  have hi : (i 0).val < 3 := (i 0).isLt
  have hi1 : (i 1).val < 1024 := (i 1).isLt
  have hi2 : (i 2).val < 8192 := (i 2).isLt
  simp only [Finset.mem_univ, Finset.mem_biUnion, true_and, true_iff]
  refine ⟨⟨(i 0).val, hi⟩, ?_⟩
  rw [slotM_set, Rect.mem_set_unit]
  simp only [Fin.forall_fin_succ, Fin.forall_fin_zero_pi, IsEmpty.forall_iff, and_true]
  show ((i 0).val ≤ (i 0).val ∧ (i 0).val < (i 0).val + 1) ∧ (0 ≤ (i 1).val ∧ (i 1).val < 0 + 1024) ∧ (0 ≤ (i 2).val ∧ (i 2).val < 0 + 8192)
  omega

theorem slotM_apart : ∀ k ∈ (Finset.univ : Finset (Fin 3)), ∀ k' ∈ (Finset.univ : Finset (Fin 3)), k ≠ k' →
    Disjoint (slotM k).view.set (slotM k').view.set :=
  fun _ _ _ _ h => slotM_disjoint h

theorem slots_split (c : Dev nD) : AnyAt c (Memref.whole main_v3_1) ⊢ (slots c : sProp 𝕄) := by
  unfold AnyAt
  iintro ⟨%f, H⟩
  ihave H := (Entails.of_eq (congrArg (fun I => ((Memref.whole main_v3_1).view.loc (c : Thread nD τ) ↦[I]{fullShare} f : sProp 𝕄)) slotM_cover)) $$ H
  ihave H := (Entails.of_eq (pointsTo_biUnion (q := fullShare) (f := f) _ _ slotM_apart)) $$ H
  ihave H := (Entails.of_eq (Ring.bigSep_fin3 _)) $$ H
  icases H with ⟨H0, H1, H2⟩
  unfold slots AnyAt
  isplitl [H0]; · iexists f; iexact H0
  isplitl [H1]; · iexists f; iexact H1
  iexists f; iexact H2

/-- What the arrival buffer holds at the end: slot `k` has what the device on the left sent at step `k`. -/
def arrived (p : Ins F) (c : Dev nD) : S3x1024x8192.Idx → Elt F .bf16 := fun i => sv p (i 0).val (prv c) (ix2 (i 1) (i 2))

omit [FloatOps F] in
/-- A slot, read, is the part of the whole buffer with that first coordinate. -/
theorem slotM_read (k : Fin 3) (f : main_v3_1.ty.Contents (Elt F)) (x : S1024x8192.Idx) :
    (slotM k).view.read (Elt F) f x = f (ix3 k (x 0) (x 1)) := by
  show f _ = f _
  congr 1
  have e1 : (Shape.reshapeEquiv squeezes_S1x1024x8192_S1024x8192.numel_eq) x = Fin.cons ⟨0, Nat.one_pos⟩ x :=
    Shape.reshapeEquiv_cons_one (d := ![1024, 8192]) _ x
  show (Rect.unit (s := S3x1024x8192) ![k.val, 0, 0] S1x1024x8192.size (slot_inb k)).emb (Shape.reshapeEquiv _ x) = _
  rw [e1]
  funext a
  apply Fin.ext
  fin_cases a
  · rfl
  · show 0 + 1 * (x 0).val = (x 0).val; omega
  · show 0 + 1 * (x 1).val = (x 1).val; omega

/-- The three slots, each with what arrived in it, are the whole buffer. -/
theorem slots_join (p : Ins F) (c : Dev nD) :
    iprop(At c (slotM 0) (sv p 0 (prv c)) ∗ At c (slotM 1) (sv p 1 (prv c)) ∗ At c (slotM 2) (sv p 2 (prv c)))
      ⊢ (At c (Memref.whole main_v3_1) (arrived p c) : sProp 𝕄) := by
  unfold At
  rw [slotM_cover]
  iintro ⟨H0, H1, H2⟩
  ihave H := (parts_join (F := F) (ℓ := (c : Thread nD τ).loc main_v3_1) (0 : Fin 3) (fun k => (slotM k).view.set) (arrived p c) slotM_apart
    (fun k f => (slotM k).view.read (Elt F) f = sv p k.val (prv c)) (fun k f g h e => (View.read_congr h).trans e)) $$ [H0 H1 H2]
  · iapply (Entails.of_eq (Ring.bigSep_fin3 _).symm)
    isplitl [H0]; · iexact H0
    isplitl [H1]; · iexact H1
    iexact H2
  icases H with ⟨%g, %hg, H⟩
  iexists g
  isplitr
  · ipureintro
    rw [View.read_whole]
    funext i
    have e : i = ix3 (i 0) (i 1) (i 2) := by
      funext a; fin_cases a <;> rfl
    have := congrFun (hg (i 0)) (ix2 (i 1) (i 2))
    exact (congrArg g e).trans ((slotM_read (i 0) g (ix2 (i 1) (i 2))).symm.trans this)
  iexact H

/-! ## The array all devices end with -/

/-- Each block is what its last adder, the device before the block's own, made of it. -/
def total (p : Ins F) : S4096x8192.Idx → Elt F .bf16 := fun i =>
  sv p 3 (prv (⟨(i 0).val / 1024, by have h : (i 0).val < 4096 := (i 0).isLt; omega⟩ : Fin 4))
    (ix2 (⟨(i 0).val % 1024, Nat.mod_lt _ (by decide)⟩ : Fin 1024) (i 1))

theorem blkOf_total (p : Ins F) (b : Fin 4) : blkOf b (total p) = sv p 3 (prv b) := by
  funext x
  have h : (x 0).val < 1024 := (x 0).isLt
  have hb := b.isLt
  unfold blkOf total
  have e1 : (⟨(1024 * b.val + (x 0).val) / 1024, by omega⟩ : Fin 4) = b := Fin.ext (by show (1024 * b.val + (x 0).val) / 1024 = b.val; omega)
  have e2 : ix2 (⟨(1024 * b.val + (x 0).val) % 1024, Nat.mod_lt _ (by decide)⟩ : Fin 1024) (x 1) = x := by
    funext a; fin_cases a
    · apply Fin.ext; show (1024 * b.val + (x 0).val) % 1024 = (x 0).val; omega
    · rfl
  show sv p 3 (prv (⟨(1024 * b.val + (x 0).val) / 1024, _⟩ : Fin 4)) (ix2 (⟨(1024 * b.val + (x 0).val) % 1024, _⟩ : Fin 1024) (x 1)) = _
  exact congrArg₂ (fun d y => sv p 3 (prv d) y) e1 e2

/-- From step 3 on, what a device sends is the finished block. -/
theorem sv_done (p : Ins F) (j : ℕ) : ∀ c : Dev nD, sv p (j + 3) c = blkOf (bk c (j + 3)) (total p) := by
  induction j with
  | zero =>
    intro c
    rw [blkOf_total]
    exact congrArg (sv p 3) (by revert c; decide)
  | succ j ih =>
    intro c
    rw [show j + 1 + 3 = (j + 3) + 1 from by omega, sv_pass p c (j + 3) (by omega), ih (prv c), bk_prv]

end Cert.KernelIdeal.Run

end
-- ==== Proof.Body.lean ====
/- The run of the kernel's body on one device. -/
module

public import proofs.«01_k».proof.Proof.Whole
public import Idealize.ShloMosaic.Lib.Pointwise.Reshape

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

/-- A big separating conjunction over four, written out; -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- and over six. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The block the right neighbour sent at step `j` is the one it receives into at step `j + 3`. -/
theorem tok_nxt (c : Dev nD) (j : ℕ) : (tok (nxt c) j : sProp 𝕄) = AnyAt (nxt c) (outM (bk c (j + 3))) := by
  unfold tok; rw [← bk_add_four, bk_nxt_succ]

/-! What a device passes on next is what it was passed, and the right to the block that came. -/

theorem pass_0 (c : Dev nD) : iprop(fwd (prv c) 0 ∗ tok (prv c) 0) ⊢ (fwd c 1 : sProp 𝕄) := by
  show iprop(emp ∗ tok (prv c) 0) ⊢ tok (prv c) 0
  iintro ⟨-, H⟩; iexact H
theorem pass_1 (c : Dev nD) : iprop(fwd (prv c) 1 ∗ tok (prv c) 1) ⊢ (fwd c 2 : sProp 𝕄) := by
  show iprop(tok (prv (prv c)) 0 ∗ tok (prv c) 1) ⊢ iprop(tok (prv c) 1 ∗ tok (prv (prv c)) 0)
  iintro ⟨H, H'⟩; isplitl [H']; · iexact H'
  iexact H
theorem pass_2 (c : Dev nD) :
    iprop(fwd (prv c) 2 ∗ tok (prv c) 2) ⊢ (iprop(fwd c 3 ∗ AnyAt (nxt c) (outM (bk c 3))) : sProp 𝕄) := by
  rw [← tok_nxt c 0, ← prv3 c]
  show iprop((tok (prv (prv c)) 1 ∗ tok (prv (prv (prv c))) 0) ∗ tok (prv c) 2) ⊢
    iprop((tok (prv c) 2 ∗ tok (prv (prv c)) 1) ∗ tok (prv (prv (prv c))) 0)
  iintro ⟨⟨H, H'⟩, H''⟩
  isplitl [H H'']
  · isplitl [H'']; · iexact H''
    iexact H
  iexact H'
theorem pass_3 (c : Dev nD) : fwd (prv c) 3 ⊢ (iprop(fwd c 4 ∗ AnyAt (nxt c) (outM (bk c 4))) : sProp 𝕄) := by
  rw [← tok_nxt c 1, ← prv3 c]
  exact BI.Entails.refl (iprop(tok (prv (prv c)) 2 ∗ tok (prv (prv (prv c))) 1))
theorem pass_4 (c : Dev nD) : fwd (prv c) 4 ⊢ (iprop(fwd c 5 ∗ AnyAt (nxt c) (outM (bk c 5))) : sProp 𝕄) := by
  rw [← tok_nxt c 2, ← prv3 c]
  show tok (prv (prv (prv c))) 2 ⊢ iprop(emp ∗ tok (prv (prv (prv c))) 2)
  iintro H; isplitr; · iempintro
  iexact H

/-- The four finished blocks are the result. -/
theorem out_done (p : Ins F) (c : Dev nD) :
    iprop(At c (outM (bk c 3)) (sv p 3 c) ∗ At c (outM (bk c 4)) (sv p 4 c) ∗ At c (outM (bk c 5)) (sv p 5 c) ∗ At c (outM (bk c 6)) (sv p 6 c))
      ⊢ At c (Memref.whole main_v3_0) (total p) := by
  refine BI.Entails.trans ?_ (out_join c (total p))
  rw [sv_done p 0 c, sv_done p 1 c, sv_done p 2 c, sv_done p 3 c, four]
  rw [show bk c (1 + 3) = bk c 0 from bk_add_four c 0, show bk c (2 + 3) = bk c 1 from bk_add_four c 1,
    show bk c (3 + 3) = bk c 2 from bk_add_four c 2]
  show iprop(At c (outM (bk c 3)) (blkOf (bk c 3) (total p)) ∗ At c (outM (bk c 0)) (blkOf (bk c 0) (total p))
      ∗ At c (outM (bk c 1)) (blkOf (bk c 1) (total p)) ∗ At c (outM (bk c 2)) (blkOf (bk c 2) (total p))) ⊢
    iprop(At c (outM (bk c 0)) (blkOf (bk c 0) (total p)) ∗ At c (outM (bk c 1)) (blkOf (bk c 1) (total p))
      ∗ At c (outM (bk c 2)) (blkOf (bk c 2) (total p)) ∗ At c (outM (bk c 3)) (blkOf (bk c 3) (total p)))
  iintro ⟨H3, H0, H1, H2⟩
  isplitl [H0]; · iexact H0
  isplitl [H1]; · iexact H1
  isplitl [H2]; · iexact H2
  iexact H3

section Run

variable (p : Ins F) (K : GSem nD τ sig → ℕ) (c : Dev nD)

/-- What device `c` starts the kernel with. -/
def pre (W : Waits sig Unit) : sProp 𝕄 :=
  iprop(ctx p K ∗ barKit c ∗ ready c ∗ bigSep Finset.univ (fun k => stepKit c k) ∗ locals c
    ∗ At c (Memref.whole main_v2) (p c) ∗ AnyAt c (Memref.whole main_v3_0) ∗ AnyAt c (Memref.whole main_v3_1)
    ∗ owes (c : Thread nD τ) (O₀ c) W)

/-- What it ends with: all counters at zero, its input as it was, the sum of all inputs in the result, what arrived in the arrival buffer, nothing owed. -/
def post : sProp 𝕄 :=
  iprop(semVal (barCell c) 0 ∗ bigSep Finset.univ (fun k => sems c k) ∗ locals c
    ∗ At c (Memref.whole main_v2) (p c) ∗ At c (Memref.whole main_v3_0) (total p) ∗ At c (Memref.whole main_v3_1) (arrived p c)
    ∗ ∃ W, owes (c : Thread nD τ) (0 : CellTallies nD τ sig Unit) W)

/-- The kernel's body as the generated program names it. -/
abbrev body (F : FTy → Type) [FloatOps F] : KProg F :=
  cc0__allreduce_body (F := F) (Memref.whole main_v2) (Memref.isWhole_whole _) (Memref.whole main_v3_0) (Memref.isWhole_whole _)
    (Memref.whole main_v3_1) (Memref.isWhole_whole _) (Memref.whole cc0_scratch0) (Memref.isWhole_whole _) (Memref.whole cc0_scratch1)
    (Memref.isWhole_whole _) cc0_scratch2 cc0_scratch3 cc0_scratch4

theorem pay1_eq (a b : Vec F S512x8192 .bf16) : k0_pay1 a b = addRnd a b := shapeCast_id _ _
theorem pay2_eq (a b : Vec F S512x8192 .bf16) : k0_pay2 a b = addRnd a b := shapeCast_id _ _
theorem pay3_eq (a b : Vec F S512x8192 .bf16) : k0_pay3 a b = addRnd a b := shapeCast_id _ _
theorem pay4_eq (a b : Vec F S512x8192 .bf16) : k0_pay4 a b = addRnd a b := shapeCast_id _ _
theorem pay5_eq (a b : Vec F S512x8192 .bf16) : k0_pay5 a b = addRnd a b := shapeCast_id _ _
theorem pay6_eq (a b : Vec F S512x8192 .bf16) : k0_pay6 a b = addRnd a b := shapeCast_id _ _

set_option maxHeartbeats 800000 in
/-- The body runs from `pre` to `post`. -/
theorem body_run (W : Waits sig Unit) (Q : PUnit → sProp 𝕄) :
    iprop(pre p K c W ∗ (post p c -∗ Q ⟨⟩)) ⊢ runs c (body F) Q := by
  unfold body runs
  rw [body_eq, wp_deviceId]
  show iprop(pre p K c W ∗ (post p c -∗ Q ⟨⟩)) ⊢ runs c _ Q
  unfold pre
  rw [six]
  iintro ⟨⟨#HX, HB, #HR, ⟨K0, K1, K2, K3, K4, K5⟩, HL, Hx, Hy, Hs, HO⟩, Hk⟩
  -- the barrier
  ihave Hs := (slots_split c) $$ Hs
  iapply (runs_bind c _ _ Q)
  iapply (barrier_run p K c _ _ (dev1_eq c) (dev2_eq c) W)
  isplitr; · iexact HX
  isplitl [HB]; · iexact HB
  isplitl [Hs]; · iexact Hs
  isplitr; · iexact HR
  isplitl [HO]; · iexact HO
  iintro ⟨Hbar, Hs, #HRN, HD⟩
  unfold slots
  icases Hs with ⟨D0, D1, D2⟩
  -- the input into the result
  iapply (runs_bind c _ _ Q)
  unfold locals debt
  icases HL with ⟨HA, HB, Hv0, Hv1⟩
  icases HD with ⟨%W1, HO⟩
  iapply (copyIn_run c (locS 0) (p c) (owedN c 6) W1 (ctx p K) ((ctx_lev p K).trans (mayWait_loc c 6 (le_refl 6) 0)))
  isplitr; · iexact HX
  isplitl [Hx]; · iexact Hx
  isplitl [Hy]; · iexact Hy
  isplitl [Hv0]; · iexact Hv0
  isplitl [HO]; · iexact HO
  iintro ⟨Hy, Hx, Hv0, HO⟩
  ihave HL : locals c $$ [HA HB Hv0 Hv1]
  · unfold locals
    isplitl [HA]; · iexact HA
    isplitl [HB]; · iexact HB
    isplitl [Hv0]; · iexact Hv0
    iexact Hv1
  ihave HD : debt c 6 $$ [HO]
  · unfold debt; iexact HO
  ihave Hy := (out_split c (p c)) $$ Hy
  ihave Hy := (Entails.of_eq (four _)) $$ Hy
  icases Hy with ⟨B0, B1, B2, B3⟩
  -- the first round
  iapply (rs_step p K c 0 k0_pay1 k0_pay2 pay1_eq pay2_eq _ (dev3_eq c) _ Q)
  isplitr; · iexact HX
  isplitl [K0]; · iexact K0
  isplitl [B0]; · iexact B0
  isplitl [B1]; · iexact B1
  isplitl [D0]; · iexact D0
  isplitr; · iempintro
  isplitr; · iexact HRN
  isplitl [HL]; · iexact HL
  isplitl [HD]; · iexact HD
  iintro ⟨Z0, B1, S0, HF, HT, HL, HD⟩
  ihave HF := (pass_0 c) $$ [HF HT]
  · isplitl [HF]; · iexact HF
    iexact HT
  iapply (rs_step p K c 1 k0_pay3 k0_pay4 pay3_eq pay4_eq _ (dev4_eq c) _ Q)
  isplitr; · iexact HX
  isplitl [K1]; · iexact K1
  isplitl [B1]; · iexact B1
  isplitl [B2]; · iexact B2
  isplitl [D1]; · iexact D1
  isplitl [HF]; · iexact HF
  isplitr; · iexact HRN
  isplitl [HL]; · iexact HL
  isplitl [HD]; · iexact HD
  iintro ⟨Z1, B2, S1, HF, HT, HL, HD⟩
  ihave HF := (pass_1 c) $$ [HF HT]
  · isplitl [HF]; · iexact HF
    iexact HT
  iapply (rs_step p K c 2 k0_pay5 k0_pay6 pay5_eq pay6_eq _ (dev5_eq c) _ Q)
  isplitr; · iexact HX
  isplitl [K2]; · iexact K2
  isplitl [B2]; · iexact B2
  isplitl [B3]; · iexact B3
  isplitl [D2]; · iexact D2
  isplitl [HF]; · iexact HF
  isplitr; · iexact HRN
  isplitl [HL]; · iexact HL
  isplitl [HD]; · iexact HD
  iintro ⟨Z2, B3, S2, HF, HT, HL, HD⟩
  ihave HF := (pass_2 c) $$ [HF HT]
  · isplitl [HF]; · iexact HF
    iexact HT
  icases HF with ⟨HF, Hd⟩
  -- the second round
  iapply (runs_bind c _ _ Q)
  iapply (ag_step p K c 0 _ (dev6_eq c))
  isplitr; · iexact HX
  isplitl [K3]; · iexact K3
  isplitl [B3]; · iexact B3
  isplitl [Hd]; · iexact Hd
  isplitl [HF]; · iexact HF
  isplitr; · iexact HRN
  isplitl [HD]; · iexact HD
  iintro ⟨Z3, B3, B4, HF, HD⟩
  ihave HF := (show fwd (prv c) ((0 : Fin 3).val + 3) ⊢ _ from pass_3 c) $$ HF
  icases HF with ⟨HF, Hd⟩
  iapply (runs_bind c _ _ Q)
  iapply (ag_step p K c 1 _ (dev7_eq c))
  isplitr; · iexact HX
  isplitl [K4]; · iexact K4
  isplitl [B4]; · iexact B4
  isplitl [Hd]; · iexact Hd
  isplitl [HF]; · iexact HF
  isplitr; · iexact HRN
  isplitl [HD]; · iexact HD
  iintro ⟨Z4, B4, B5, HF, HD⟩
  ihave HF := (show fwd (prv c) ((1 : Fin 3).val + 3) ⊢ _ from pass_4 c) $$ HF
  icases HF with ⟨HF, Hd⟩
  iapply (ag_step p K c 2 _ (dev8_eq c))
  isplitr; · iexact HX
  isplitl [K5]; · iexact K5
  isplitl [B5]; · iexact B5
  isplitl [Hd]; · iexact Hd
  isplitl [HF]; · iexact HF
  isplitr; · iexact HRN
  isplitl [HD]; · iexact HD
  iintro ⟨Z5, B5, B6, -, HD⟩
  -- the end
  iapply Hk
  unfold post
  isplitl [Hbar]; · iexact Hbar
  isplitl [Z0 Z1 Z2 Z3 Z4 Z5]
  · iapply (Entails.of_eq (six (fun k => sems c k)).symm)
    isplitl [Z0]; · iexact Z0
    isplitl [Z1]; · iexact Z1
    isplitl [Z2]; · iexact Z2
    isplitl [Z3]; · iexact Z3
    isplitl [Z4]; · iexact Z4
    iexact Z5
  isplitl [HL]; · iexact HL
  isplitl [Hx]; · iexact Hx
  isplitl [B3 B4 B5 B6]
  · iapply (out_done p c)
    isplitl [B3]; · iexact B3
    isplitl [B4]; · iexact B4
    isplitl [B5]; · iexact B5
    iexact B6
  isplitl [S0 S1 S2]
  · iapply (slots_join p c)
    isplitl [S0]; · iexact S0
    isplitl [S1]; · iexact S1
    iexact S2
  unfold debt
  iexact HD

end Run

end Cert.KernelIdeal.Run

end
-- ==== Proof.Region.lean ====
/- The kernel's call as a region of the program: what a device holds before and after it. -/
module

public import proofs.«01_k».proof.Proof.Body
public import proofs.«01_k».proof.Proof.Gen.KernelIdeal.Frame
public import Idealize.ShloMosaic.Lib.Pipeline.RegionTalk

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-- What each device's kernel reads: its partial product, rounded to bf16. -/
def ins : Ins F := fun c => V m c main_v2

/-- The buffers after the kernel: the result and the arrival buffer are new. -/
def V₂ (c : Dev nD) : Valuation τ sig (Elt F) :=
  Function.update (Function.update (V0 m c) (Proc.devRef .tc main_v3_0) (total (ins m))) (Proc.devRef .tc main_v3_1) (arrived (ins m) c)

theorem V₂_v2 (c : Dev nD) : V₂ m c (Proc.devRef .tc main_v2) = ins m c := by
  unfold V₂
  rw [Function.update_of_ne (by decide), Function.update_of_ne (by decide)]; rfl
theorem V₂_v3_0 (c : Dev nD) : V₂ m c (Proc.devRef .tc main_v3_0) = total (ins m) := by
  unfold V₂
  rw [Function.update_of_ne (by decide), Function.update_self]
theorem V₂_v3_1 (c : Dev nD) : V₂ m c (Proc.devRef .tc main_v3_1) = arrived (ins m) c := by
  unfold V₂
  rw [Function.update_self]

/-! ## The buffers the kernel addresses itself -/

/-- Its input, its result and the arrival buffer. -/
def kRefs : Finset (DevRef τ sig) := {Proc.devRef .tc main_v2, Proc.devRef .tc main_v3_0, Proc.devRef .tc main_v3_1}

theorem kRefs_sub : kRefs ⊆ Pipeline.ucRefs τ sig := by decide

/-- The other buffers are as before. -/
theorem V₂_rest (c : Dev nD) (b : DevRef τ sig) (hb : b ∈ Pipeline.ucRefs τ sig \ kRefs) : V₂ m c b = V0 m c b := by
  have h := (Finset.mem_sdiff.mp hb).2
  unfold kRefs at h
  simp only [Finset.mem_insert, Finset.mem_singleton, not_or] at h
  unfold V₂
  rw [Function.update_of_ne h.2.2, Function.update_of_ne h.2.1]

/-- A whole buffer. -/
abbrev pt (c : Dev nD) (b : Ref sig .tc) (f : b.ty.Contents (Elt F)) : sProp 𝕄 := (c : Thread nD τ).loc b ↦{fullShare} f

theorem held_kRefs (c : Dev nD) (W : Valuation τ sig (Elt F)) : (StableHlo.held (c : Thread nD τ) kRefs W : sProp 𝕄)
    = iprop(pt c main_v2 (W (Proc.devRef .tc main_v2)) ∗ pt c main_v3_0 (W (Proc.devRef .tc main_v3_0)) ∗ pt c main_v3_1 (W (Proc.devRef .tc main_v3_1))) := by
  unfold StableHlo.held
  rw [bigSep_eq_bigSepL_of_eq [Proc.devRef .tc main_v2, Proc.devRef .tc main_v3_0, Proc.devRef .tc main_v3_1] (by decide) (by decide)]
  rfl

/-- A whole buffer as a piece, and back. -/
theorem pt_At (c : Dev nD) (b : Ref sig .tc) (f : b.ty.Contents (Elt F)) : pt c b f ⊢ (At c (Memref.whole b) f : sProp 𝕄) := by
  unfold At
  rw [View.set_whole]
  iintro H
  iexists f
  isplitr
  · ipureintro; exact View.read_whole _ _
  iexact H
theorem At_pt (c : Dev nD) (b : Ref sig .tc) (f : b.ty.Contents (Elt F)) : At c (Memref.whole b) f ⊢ (pt c b f : sProp 𝕄) := by
  unfold At
  rw [View.set_whole]
  iintro ⟨%g, %h, H⟩
  rw [View.read_whole] at h
  subst h
  iexact H
theorem AnyAt_pt (c : Dev nD) (b : Ref sig .tc) :
    (AnyAt c (Memref.whole b) : sProp 𝕄) = iprop(∃ f : Buf (Elt F) ((c : Thread nD τ).loc b), ((c : Thread nD τ).loc b) ↦{fullShare} f) := by
  unfold AnyAt
  rw [View.set_whole]

/-! ## The kernel's own semaphores -/

/-- The local ones, the send ones, the receive ones. -/
def osem : Fin 2 ⊕ (Fin 6 ⊕ Fin 6) → SemLoc sig
  | .inl i => .dma (locS i)
  | .inr (.inl k) => .dma (sendS k)
  | .inr (.inr k) => .dma (recvS k)

theorem osem_facts : Pipeline.OwnSemFacts cfg0.spec osem := by decide

theorem own_eq (c : Dev nD) : (Pipeline.ownSems0 osem c : sProp 𝕄)
    = iprop((semVal (locCell c 0) 0 ∗ semVal (locCell c 1) 0) ∗ (bigSep Finset.univ fun k => semVal (sendCell c k) 0)
      ∗ bigSep Finset.univ fun k => semVal (recvCell c k) 0) := by
  unfold Pipeline.ownSems0
  rw [BI.bigSep_univ_sum, BI.bigSep_univ_sum, BI.bigSep_fin_two]
  rfl

theorem scoped_eq (c : Dev nD) : (Pipeline.scopedRest cfg0.spec c : sProp 𝕄) = iprop(AnyAt c scA ∗ AnyAt c scB) := by
  rw [AnyAt_pt, AnyAt_pt]
  exact scopedRest0_eq c

/-! ## What a device brings to the kernel and takes from it -/

/-- Ready to run: the protocol's shared facts and the device's own part, all cells opened. -/
def opened (c : Dev nD) : sProp 𝕄 :=
  iprop(∃ K, ctx (ins m) K ∗ barKit c ∗ ready c ∗ bigSep Finset.univ (fun k => stepKit c k))

/-- Before opening: the device's part of a step. -/
def stepGhost (c : Dev nD) (k : Fin 6) : sProp 𝕄 :=
  iprop(openTok ER (sendCell c k) ∗ openTok ER (recvCell c k) ∗ dutyTok ER (sendCell c k) 0 true ∗ dutyTok ER (recvCell (nxt c) k) 0 true
    ∗ cred (tallyAt (recvCell c k) () N))

/-- The protocol's shared facts except the levels. -/
def facts (K : GSem nD τ sig → ℕ) : sProp 𝕄 :=
  iprop((bigSep Finset.univ fun c : Dev nD => inv (ins m) K (barCell c))
    ∗ (bigSep Finset.univ fun x : Dev nD × Fin 6 => inv (ins m) K (sendCell x.1 x.2))
    ∗ (bigSep Finset.univ fun x : Dev nD × Fin 6 => inv (ins m) K (recvCell x.1 x.2)))

instance facts_persistent (K : GSem nD τ sig → ℕ) : BI.Persistent (facts m K) := by unfold facts inv; infer_instance

/-- What the start of the program keeps for the kernel. -/
def kept (c : Dev nD) : sProp 𝕄 :=
  iprop((∃ K, facts m K) ∗ barKit c ∗ bigSep Finset.univ (fun k => stepGhost c k))

/-- One step's two cells opened. -/
theorem open_step (K : GSem nD τ sig → ℕ) (c : Dev nD) (k : Fin 6) :
    iprop((inv (ins m) K (sendCell c k) ∗ inv (ins m) K (recvCell c k)) ∗ (stepGhost c k ∗ semVal (sendCell c k) 0 ∗ semVal (recvCell c k) 0))
      ⊢ (|={Set.univ}=> (reached ER (recvCell c k) 0 ∗ stepKit c k) : sProp 𝕄) := by
  unfold inv stepGhost stepKit
  iintro ⟨⟨#HI, #HJ⟩, ⟨Ho, Hp, Ht, Hu, Hc⟩, Hs, Hr⟩
  imod (Rounds.cell_open ER (rd (ins m)) (g := sendCell c k) (Set.mem_univ (K (sendCell c k)))) $$ [Ho Hs] with ⟨Ha, #HrS⟩
  · isplitr; · iexact HI
    isplitl [Ho] <;> iassumption
  imod (Rounds.cell_open ER (rd (ins m)) (g := recvCell c k) (Set.mem_univ (K (recvCell c k)))) $$ [Hp Hr] with ⟨Hb, #HrV⟩
  · isplitr; · iexact HJ
    isplitl [Hp] <;> iassumption
  imodintro
  isplitr; · iexact HrV
  isplitl [Ha]; · iexact Ha
  isplitl [Hb]; · iexact Hb
  isplitl [Ht]; · iexact Ht
  isplitl [Hu]; · iexact Hu
  isplitl [Hc]; · iexact Hc
  iexact HrS

theorem facts_step (K : GSem nD τ sig → ℕ) (c : Dev nD) (k : Fin 6) :
    facts m K ⊢ (iprop(inv (ins m) K (sendCell c k) ∗ inv (ins m) K (recvCell c k)) : sProp 𝕄) := by
  unfold facts
  iintro ⟨-, HS, HV⟩
  isplitl [HS]
  · iapply (ctx_elim (fun x : Dev nD × Fin 6 => inv (ins m) K (sendCell x.1 x.2)) (c, k)); iexact HS
  iapply (ctx_elim (fun x : Dev nD × Fin 6 => inv (ins m) K (recvCell x.1 x.2)) (c, k)); iexact HV

/-- All of them. -/
theorem open_all (K : GSem nD τ sig → ℕ) (c : Dev nD) :
    iprop(facts m K ∗ (bigSep Finset.univ (fun k => stepGhost c k) ∗ (bigSep Finset.univ fun k => semVal (sendCell c k) 0)
        ∗ bigSep Finset.univ fun k => semVal (recvCell c k) 0))
      ⊢ (|={Set.univ}=> (ready c ∗ bigSep Finset.univ fun k => stepKit c k) : sProp 𝕄) := by
  unfold ready
  rw [← bigSep_sep', ← bigSep_sep', ← bigSep_sep']
  refine BI.Entails.trans ?_ (bigSep_fupd Finset.univ _)
  refine bigSep_with_persistent fun k _ => BI.Entails.trans ?_ (open_step m K c k)
  exact sep_mono_left (facts_step m K c k)

/-- What is kept and the counters the kernel finds at zero make it ready to run. -/
theorem open_kept (c : Dev nD) : iprop(kept m c ∗ Pipeline.ownSems0 osem c ∗ levAts L lv)
    ⊢ (|={Set.univ}=> (opened m c ∗ semVal (locCell c 0) 0 ∗ semVal (locCell c 1) 0) : sProp 𝕄) := by
  rw [own_eq]
  unfold kept opened
  iintro ⟨⟨⟨%K, #HF⟩, HB, HG⟩, ⟨⟨H0, H1⟩, HS, HV⟩, #HL⟩
  imod (open_all m K c) $$ [HG HS HV] with ⟨#HR, HK⟩
  · isplitr; · iexact HF
    isplitl [HG]; · iexact HG
    isplitl [HS] <;> iassumption
  imodintro
  isplitr [H0 H1]
  · iexists K
    isplitr
    · unfold facts at *
      unfold ctx
      icases HF with ⟨#HA, #HS, #HV⟩
      isplitr; · iexact HA
      isplitr; · iexact HS
      isplitr; · iexact HV
      iexact HL
    isplitl [HB]; · iexact HB
    isplitr; · iexact HR
    iexact HK
  isplitl [H0] <;> iassumption

/-! ## The region's data -/

/-- Before the kernel's one point; -/
def before (c : Dev nD) : sProp 𝕄 :=
  iprop((AnyAt c scA ∗ AnyAt c scB) ∗ (∃ r, prngReg c r) ∗ StableHlo.held (c : Thread nD τ) kRefs (V0 m c)
    ∗ (opened m c ∗ semVal (locCell c 0) 0 ∗ semVal (locCell c 1) 0))
/-- and after it. -/
def afterwards (c : Dev nD) : sProp 𝕄 :=
  iprop((AnyAt c scA ∗ AnyAt c scB) ∗ (∃ r, prngReg c r) ∗ StableHlo.held (c : Thread nD τ) kRefs (V₂ m c)
    ∗ Pipeline.ownSems0 osem c ∗ semVal (barCell c) 0)

/-- The kernel stages nothing; it owes its transfers and barrier units before, nothing after. -/
def dat (c : Dev nD) : Dat τ (Elt F) Unit ℕ UU ℕ cfg0 c where
  A w := w.elim0
  after w := w.elim0
  Φ t := if t.val = 0 then before m c else afterwards m c
  q w := w.elim0
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat m c

theorem owed_zero (c : Dev nD) : (pdats m 0 c).owed 0 = O₀ c := by
  show (if ((0 : Fin (cfg0.N + 1)).val = 0) then O₀ c else 0) = O₀ c; exact if_pos rfl
theorem owed_first (c : Dev nD) : (dat m c).owed (t0_0 : Fin cfg0.N).castSucc = O₀ c := by
  show (if ((t0_0 : Fin cfg0.N).castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owes_in (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound
  rw [h0]
  iintro HO
  iexists W
  isplitr; · ipureintro; exact fun _ _ => Or.inl trivial
  iexact HO
theorem owes_out (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin
  rw [h0]
  iintro ⟨%W, -, HO⟩
  iexists W
  iexact HO

theorem no_windows {M : Type} [URA M] (Φ : Fin 0 → sProp M) : bigSep Finset.univ Φ = (BI.emp : sProp M) :=
  bigSep_univ_eq_bigSepL [] (by decide) (by decide) Φ

/-- What the body leaves, sorted as the region keeps it. -/
theorem post_sorted (c : Dev nD) : iprop(post (ins m) c ∗ ∃ r, prngReg c r)
    ⊢ (iprop(afterwards m c ∗ ∃ W, owes (c : Thread nD τ) (0 : CellTallies nD τ sig Unit) W) : sProp 𝕄) := by
  unfold post afterwards locals sems
  rw [own_eq, bigSep_sep', held_kRefs, V₂_v2, V₂_v3_0, V₂_v3_1]
  iintro ⟨⟨Hb, ⟨HS, HV⟩, ⟨HA, HB, H0, H1⟩, Hx, Hy, Hs, HO⟩, Hp⟩
  isplitr [HO]
  · isplitl [HA HB]; · isplitl [HA] <;> iassumption
    isplitl [Hp]; · iexact Hp
    isplitl [Hx Hy Hs]
    · isplitl [Hx]; · iapply (At_pt c main_v2 (ins m c)); iexact Hx
      isplitl [Hy]; · iapply (At_pt c main_v3_0 (total (ins m))); iexact Hy
      iapply (At_pt c main_v3_1 (arrived (ins m) c)); iexact Hs
    isplitr [Hb]
    · isplitl [H0 H1]; · isplitl [H0] <;> iassumption
      isplitl [HS] <;> iassumption
    iexact Hb
  iexact HO

/-- The body's obligation. -/
theorem body_ok (c : Dev nD) : BodyObligation (dat m c) (defs₀ (F := F)) 𝒱₀ () Set.univ := fun t => by
  obtain rfl := fin_N0 t
  rw [no_windows, no_windows]
  rw [show (dat m c).Φ (t0_0 : Fin cfg0.N).castSucc = before m c from rfl, show (dat m c).Φ (t0_0 : Fin cfg0.N).succ = afterwards m c from rfl]
  unfold before opened
  rw [held_kRefs]
  iintro ⟨⟨⟨HA, HB⟩, Hp, ⟨Hx, Hy, Hs⟩, ⟨%K, Hctx, HK, HR, HS⟩, H0, H1⟩, HO, -⟩
  ihave HO := (owes_out m c _ (O₀ c) (owed_first m c)) $$ HO
  icases HO with ⟨%W, HO⟩
  iapply (show iprop(pre (ins m) K c W ∗ (post (ins m) c -∗ _)) ⊢ runs c (body F) _ from body_run (ins m) K c W _)
  isplitr [Hp]
  · unfold pre locals
    isplitl [Hctx]; · iexact Hctx
    isplitl [HK]; · iexact HK
    isplitl [HR]; · iexact HR
    isplitl [HS]; · iexact HS
    isplitl [HA HB H0 H1]
    · isplitl [HA]; · iexact HA
      isplitl [HB]; · iexact HB
      isplitl [H0] <;> iassumption
    isplitl [Hx]; · iapply (pt_At c main_v2 (ins m c)); iexact Hx
    isplitl [Hy]
    · ihave Hy := (pt_At c main_v3_0 _) $$ Hy
      iapply (At_any c (Memref.whole main_v3_0) _); iexact Hy
    isplitl [Hs]
    · ihave Hs := (pt_At c main_v3_1 _) $$ Hs
      iapply (At_any c (Memref.whole main_v3_1) _); iexact Hs
    iexact HO
  iintro HP
  ihave H := (post_sorted m c) $$ [HP Hp]
  · isplitl [HP] <;> iassumption
  icases H with ⟨H, ⟨%W', HO⟩⟩
  isplitl [H]; · iexact H
  isplitl [HO]; · iapply (owes_in m c (t0_0 : Fin cfg0.N).succ 0 (owed_last m c) W'); iexact HO
  iempintro

/-! ## The region -/

theorem kitP : Pipeline.PLaunchFacts (nD := nD) (τ := τ) (pcfgs (F := F)) 0 := launch0.toP

/-- Whatever is owed is owed on cells above the staging level. -/
theorem owed_above (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · have hO : O₀ c g i = owedN c 6 g i + tallyAt (barCell (nxt c)) () 1 g i + tallyAt (barCell (prv c)) () 1 g i := rfl
    rw [hO, tallyAt_apply, tallyAt_apply] at h
    by_cases h0 : 0 < owedN c 6 g i
    · obtain ⟨j, -, rfl⟩ := owedN_pos c 6 (le_refl 6) g i h0
      refine ⟨by rw [L_tc]; exact Finset.mem_singleton_self _, ?_⟩
      show 0 < (if 8 ≤ 8 + j.val then 8 + j.val - 6 else 0)
      rw [if_pos (by omega)]; omega
    · by_cases h1 : g = barCell (nxt c) ∧ i = ()
      · rw [h1.1]; exact ⟨by rw [L_tc]; exact Finset.mem_singleton_self _, Nat.one_pos⟩
      · by_cases h2 : g = barCell (prv c) ∧ i = ()
        · rw [h2.1]; exact ⟨by rw [L_tc]; exact Finset.mem_singleton_self _, Nat.one_pos⟩
        · rw [if_neg h1, if_neg h2] at h; exact absurd h h0
  · exact absurd h (Nat.lt_irrefl 0)

theorem enter (c : Dev nD) : iprop(Pipeline.scopedRest (Pipeline.pin (pcfgs (F := F)) adm 0).spec c ∗ (∃ r, prngReg c r)
      ∗ StableHlo.held (c.tc : Thread nD τ) kRefs (V0 m c) ∗ (opened m c ∗ semVal (locCell c 0) 0 ∗ semVal (locCell c 1) 0))
    ⊢ (pdats m 0 c).Φ 0 := by
  rw [show (pdats m 0 c).Φ 0 = before m c from rfl]
  unfold before
  iintro ⟨Hs, H⟩
  isplitl [Hs]
  · iapply (Entails.of_eq (scoped_eq c)); iexact Hs
  iexact H

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) kRefs (V₂ m c) ∗ Pipeline.ownSems0 osem c ∗ semVal (barCell c) 0) := by
  rw [show (pdats m 0 c).Φ (Fin.last _) = afterwards m c from rfl]
  unfold afterwards
  iintro ⟨Hs, H⟩
  isplitl [Hs]
  · iapply (Entails.of_eq (scoped_eq c).symm); iexact Hs
  iexact H

set_option backward.isDefEq.respectTransparency.types false in
/-- The kernel's call. -/
def reg : Pipeline.RegionSeg (pcfgs (F := F)) adm (pdats m) () (defs₀ (F := F)) 𝒱₀ L lv 0 :=
  Pipeline.RegionSeg.ofTalk (pcfgs (F := F)) adm (pdats m) () defs₀ 𝒱₀ L lv 0 osem osem_facts
    kRefs (Pipeline.ucRefs τ sig) kRefs_sub kitP rfl (fun c => (body_ok m c).loose)
    (fun _ => 0) O₀ (fun c => (owed_zero m c).trans (zero_add _).symm) (owed_last m) (fun _ => rfl) (fun _ w => w.elim0)
    (V0 m) (V₂ m) (V₂_rest m)
    (kept m) (fun c => semVal (barCell c) 0) (fun c => iprop(opened m c ∗ semVal (locCell c 0) 0 ∗ semVal (locCell c 1) 0))
    (fun c => semVal (barCell c) 0) (open_kept m) (enter m) (leave m)
    (fun c => by iintro H; imodintro; iexact H)
    (fun _ => 0)
    ⟨fun _ w => w.elim0, fun _ w => w.elim0, fun c t g i h => owed_above m c t g i h⟩
    (fun _ => iprop(emp))
    (fun _ w => w.elim0) (fun _ w => w.elim0)

theorem held_none (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

/-- What rides beside the buffers up to the kernel; -/
def rides (c : Dev nD) : sProp 𝕄 := iprop((kept m c ∗ ∃ r, prngReg c r) ∗ ∃ W, owes (c : Thread nD τ) (O₀ c) W)
/-- and from there on. -/
def rides' (c : Dev nD) : sProp 𝕄 := iprop(semVal (barCell c) 0 ∗ ∃ W, owes (c : Thread nD τ) (0 : CellTallies nD τ sig Unit) W)

theorem reg_pre (c : Dev nD) : iprop(StableHlo.held (c : Thread nD τ) (Pipeline.ucRefs τ sig) (V0 m c) ∗ rides m c) ⊢ (reg m).pre c := by
  show _ ⊢ iprop(StableHlo.held (c.tc : Thread nD τ) (Pipeline.arrRefs (τ := τ) (pcfgs (F := F) 0).spec) (V0 m c) ∗ (∃ r, prngReg c r)
    ∗ (StableHlo.held (c.tc : Thread nD τ) (Pipeline.ucRefs τ sig) (V0 m c) ∗ emp) ∗ kept m c ∗ ∃ Wd, owes (c : Thread nD τ) (0 + O₀ c) Wd)
  rw [held_none, zero_add]
  unfold rides
  iintro ⟨Hh, ⟨HK, Hp⟩, HO⟩
  isplitr; · iempintro
  isplitl [Hp]; · iexact Hp
  isplitl [Hh]
  · isplitl [Hh]; · iexact Hh
    iempintro
  isplitl [HK]; · iexact HK
  iexact HO

theorem reg_post (c : Dev nD) : (reg m).post c ⊢ iprop(StableHlo.held (c : Thread nD τ) (Pipeline.ucRefs τ sig) (V₂ m c) ∗ rides' c) := by
  show iprop(StableHlo.held (c.tc : Thread nD τ) (Pipeline.arrRefs (τ := τ) (pcfgs (F := F) 0).spec) (V₂ m c) ∗ (∃ r, prngReg c r)
    ∗ (StableHlo.held (c.tc : Thread nD τ) (Pipeline.ucRefs τ sig) (V₂ m c) ∗ emp) ∗ semVal (barCell c) 0
    ∗ ∃ Wd, owes (c : Thread nD τ) (0 : CellTallies nD τ sig Unit) Wd) ⊢ _
  rw [held_none]
  unfold rides'
  iintro ⟨-, -, ⟨Hh, -⟩, Hb, HO⟩
  isplitl [Hh]; · iexact Hh
  isplitl [Hb]; · iexact Hb
  iexact HO

end Cert.KernelIdeal.Run

end
-- ==== Proof.Ghost.lean ====
/- The start of the program: the protocol's cells funded and its tokens dealt to the devices. -/
module

public import proofs.«01_k».proof.Proof.Region

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## The cells and the tokens -/

/-- The kernel's send and receive semaphores. -/
def xsem : Fin 6 ⊕ Fin 6 → SemLoc sig := fun x => osem (.inr x)
theorem xsem_inj : Function.Injective xsem := by decide
theorem xsem_ne_bar : ∀ x, xsem x ≠ .reg barS := by decide

def barEmb : Dev nD ↪ GSem nD τ sig := ⟨fun c => barCell c, fun _ _ h => congrArg (fun g : GSem nD τ sig => g.1.1) h⟩
def xEmb : Dev nD × (Fin 6 ⊕ Fin 6) ↪ GSem nD τ sig :=
  ⟨fun x => ((x.1 : Thread nD τ), xsem x.2), fun _ _ h =>
    Prod.ext (congrArg (fun g : GSem nD τ sig => g.1.1) h) (xsem_inj (congrArg Prod.snd h))⟩

/-- The barrier cells, live from the start; the others, opened by the kernel. -/
abbrev barCells : Finset (GSem nD τ sig) := Finset.univ.map barEmb
abbrev xCells : Finset (GSem nD τ sig) := Finset.univ.map xEmb

/-- A device's duties: its barrier's two, and one on each send and receive cell. -/
def dsem : Bool ⊕ (Fin 6 ⊕ Fin 6) → SemLoc sig × Bool
  | .inl b => (.reg barS, b)
  | .inr x => (xsem x, true)
theorem dsem_inj : Function.Injective dsem := by decide
def dutyEmb : Dev nD × (Bool ⊕ (Fin 6 ⊕ Fin 6)) ↪ GSem nD τ sig × ℕ × Bool :=
  ⟨fun x => (((x.1 : Thread nD τ), (dsem x.2).1), 0, (dsem x.2).2), fun _ _ h =>
    Prod.ext (congrArg (fun t : GSem nD τ sig × ℕ × Bool => t.1.1.1) h)
      (dsem_inj (Prod.ext (congrArg (fun t : GSem nD τ sig × ℕ × Bool => t.1.2) h) (congrArg (fun t : GSem nD τ sig × ℕ × Bool => t.2.2) h)))⟩
def allToks : Finset (GSem nD τ sig × ℕ × Bool) := Finset.univ.map dutyEmb

theorem disjoint_cells : Disjoint (barCells : Finset (GSem nD τ sig)) xCells := by
  rw [Finset.disjoint_left]
  rintro g h₁ h₂
  obtain ⟨c, -, rfl⟩ := Finset.mem_map.mp h₁
  obtain ⟨x, -, h⟩ := Finset.mem_map.mp h₂
  exact xsem_ne_bar x.2 (congrArg Prod.snd h)

theorem bar_mem (c : Dev nD) : barCell c ∈ (barCells ∪ xCells : Finset (GSem nD τ sig)) :=
  Finset.mem_union_left _ (Finset.mem_map_of_mem barEmb (Finset.mem_univ c))
theorem send_mem (c : Dev nD) (k : Fin 6) : sendCell c k ∈ (barCells ∪ xCells : Finset (GSem nD τ sig)) :=
  Finset.mem_union_right _ (Finset.mem_map_of_mem xEmb (Finset.mem_univ ((c, Sum.inl k) : Dev nD × (Fin 6 ⊕ Fin 6))))
theorem recv_mem (c : Dev nD) (k : Fin 6) : recvCell c k ∈ (barCells ∪ xCells : Finset (GSem nD τ sig)) :=
  Finset.mem_union_right _ (Finset.mem_map_of_mem xEmb (Finset.mem_univ ((c, Sum.inr k) : Dev nD × (Fin 6 ⊕ Fin 6))))

/-- The ring as a permutation of the devices, -/
def ringN : Dev nD ≃ Dev nD := ⟨nxt, prv, prv_nxt, nxt_prv⟩
/-- and the other way round. -/
def ringP : Dev nD ≃ Dev nD := ⟨prv, nxt, nxt_prv, prv_nxt⟩

/-! ## What is shared and what is dealt -/

/-- All cells' invariants under one map of names, and the barriers' first round reached. -/
def records (κ : GSem nD τ sig → ℕ) : sProp 𝕄 :=
  iprop((bigSep (barCells ∪ xCells) fun g => inv (ins m) κ g) ∗ bigSep barCells fun g => reached ER g 0)

instance records_persistent (κ : GSem nD τ sig → ℕ) : BI.Persistent (records m κ) := by unfold records inv; infer_instance

theorem records_facts (κ : GSem nD τ sig → ℕ) : records m κ ⊢ facts m κ := by
  have hi {g : GSem nD τ sig} (hg : g ∈ (barCells ∪ xCells : Finset (GSem nD τ sig))) : records m κ ⊢ inv (ins m) κ g := by
    have h : (bigSep (barCells ∪ xCells) fun g => inv (ins m) κ g : sProp 𝕄) ⊢ inv (ins m) κ g := bigSep_elim hg
    unfold records
    iintro ⟨H, -⟩
    iapply h; iexact H
  unfold facts
  iintro #H
  isplitr
  · iapply (show records m κ ⊢ bigSep Finset.univ (fun c : Dev nD => inv (ins m) κ (barCell c)) from
      bigSep_intro_persistent fun c _ => hi (bar_mem c)); iexact H
  isplitr
  · iapply (show records m κ ⊢ bigSep Finset.univ (fun x : Dev nD × Fin 6 => inv (ins m) κ (sendCell x.1 x.2)) from
      bigSep_intro_persistent fun x _ => hi (send_mem x.1 x.2)); iexact H
  iapply (show records m κ ⊢ bigSep Finset.univ (fun x : Dev nD × Fin 6 => inv (ins m) κ (recvCell x.1 x.2)) from
    bigSep_intro_persistent fun x _ => hi (recv_mem x.1 x.2)); iexact H

theorem records_reached (κ : GSem nD τ sig → ℕ) (c : Dev nD) : records m κ ⊢ reached ER (barCell c) 0 := by
  have h : (bigSep barCells fun g => reached ER g 0 : sProp 𝕄) ⊢ reached ER (barCell c) 0 :=
    bigSep_elim (Finset.mem_map_of_mem barEmb (Finset.mem_univ c))
  unfold records
  iintro ⟨-, H⟩
  iapply h; iexact H

/-- The tokens of device `c`'s own cells; -/
def ownToks (c : Dev nD) : sProp 𝕄 :=
  iprop((dutyTok ER (barCell c) 0 true ∗ dutyTok ER (barCell c) 0 false)
    ∗ (bigSep Finset.univ fun k => dutyTok ER (sendCell c k) 0 true) ∗ bigSep Finset.univ fun k => dutyTok ER (recvCell c k) 0 true)
/-- the tokens of the duties it pays. -/
def payToks (c : Dev nD) : sProp 𝕄 :=
  iprop((dutyTok ER (barCell (prv c)) 0 true ∗ dutyTok ER (barCell (nxt c)) 0 false)
    ∗ (bigSep Finset.univ fun k => dutyTok ER (sendCell c k) 0 true) ∗ bigSep Finset.univ fun k => dutyTok ER (recvCell (nxt c) k) 0 true)

theorem two_bool (Φ : Bool → sProp 𝕄) : bigSep Finset.univ Φ = iprop(Φ true ∗ Φ false) :=
  bigSep_univ_eq_bigSepL [true, false] (by decide) (by decide) Φ

theorem toks_eq : bigSep allToks (fun x => (dutyTok ER x.1 x.2.1 x.2.2 : sProp 𝕄)) = bigSep Finset.univ fun c : Dev nD => ownToks c := by
  unfold allToks
  rw [bigSep_map, bigSep_univ_prod]
  refine bigSep_congr fun c _ => ?_
  unfold ownToks
  rw [BI.bigSep_univ_sum, BI.bigSep_univ_sum, two_bool]
  rfl

/-- Each token to the device that pays. -/
theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep',
    bigSep_univ_equiv ringP (fun c : Dev nD => (dutyTok ER (barCell c) 0 true : sProp 𝕄)),
    bigSep_univ_equiv ringN (fun c : Dev nD => (dutyTok ER (barCell c) 0 false : sProp 𝕄)),
    bigSep_univ_equiv ringN (fun c : Dev nD => (bigSep Finset.univ fun k => dutyTok ER (recvCell c k) 0 true : sProp 𝕄))]
  exact BI.Entails.refl _

/-- What stays with device `c`. -/
def dealt (c : Dev nD) : sProp 𝕄 :=
  iprop(atPos ER (barCell c) 0 ∅ 0
    ∗ ((bigSep Finset.univ fun k => openTok ER (sendCell c k)) ∗ bigSep Finset.univ fun k => openTok ER (recvCell c k)) ∗ payToks c)

/-- The credits its awaited units give. -/
def credits (c : Dev nD) : sProp 𝕄 :=
  iprop(cred (tallyAt (barCell c) () 2) ∗ bigSep Finset.univ fun k => cred (tallyAt (recvCell c k) () N))

theorem kept_intro (κ : GSem nD τ sig → ℕ) (c : Dev nD) : iprop(records m κ ∗ (dealt c ∗ credits c)) ⊢ kept m c := by
  unfold dealt credits payToks kept barKit stepGhost
  rw [bigSep_sep', bigSep_sep', bigSep_sep', bigSep_sep']
  iintro ⟨#HR, ⟨Ha, ⟨HoS, HoV⟩, ⟨HtP, HtN⟩, HtS, HtV⟩, HcB, HcV⟩
  isplitr
  · iexists κ
    iapply (records_facts m κ); iexact HR
  isplitl [Ha HtP HtN HcB]
  · isplitl [Ha]; · iexact Ha
    isplitl [HtP]; · iexact HtP
    isplitl [HtN]; · iexact HtN
    isplitr; · iapply (records_reached m κ (prv c)); iexact HR
    isplitr; · iapply (records_reached m κ (nxt c)); iexact HR
    iexact HcB
  isplitl [HoS]; · iexact HoS
  isplitl [HoV]; · iexact HoV
  isplitl [HtS]; · iexact HtS
  isplitl [HtV]; · iexact HtV
  iexact HcV

/-! ## The credits -/

omit [FloatOps F] in
theorem recvCell_inj {d c : Dev nD} {j k : Fin 6} (h : recvCell d j = recvCell c k) : d = c ∧ j = k := by
  refine ⟨congrArg (fun g : GSem nD τ sig => g.1.1) h, ?_⟩
  have := xsem_inj (a₁ := .inr j) (a₂ := .inr k) (congrArg Prod.snd h)
  exact Sum.inr.inj this

theorem owedN_bar (d c : Dev nD) : owedN d 6 (barCell c) () = 0 := by
  by_contra h
  obtain ⟨j, -, e⟩ := owedN_pos d 6 (le_refl 6) (barCell c) () (Nat.pos_of_ne_zero h)
  exact xsem_ne_bar (.inr j) (congrArg Prod.snd e).symm

theorem owedN_recv (d c : Dev nD) (k : Fin 6) (n : ℕ) (hn : n ≤ 6) :
    owedN d n (recvCell c k) () = if nxt d = c ∧ 6 - n ≤ k.val then N else 0 := by
  have hk := k.isLt
  induction n with
  | zero =>
    rw [if_neg (by omega)]; rfl
  | succ n ih =>
    have e : owedN d (n + 1) (recvCell c k) () = owedN d n (recvCell c k) () + tallyAt (recvCell (nxt d) ⟨5 - n, by omega⟩) () N (recvCell c k) () := rfl
    rw [e, ih (by omega), tallyAt_apply]
    by_cases h : nxt d = c
    · subst h
      by_cases hj : k.val = 5 - n
      · have hk' : k = ⟨5 - n, by omega⟩ := Fin.ext hj
        rw [if_neg (by omega), if_pos ⟨by rw [hk'], rfl⟩, if_pos ⟨rfl, by omega⟩, Nat.zero_add]
      · rw [if_neg (c := recvCell (nxt d) k = _ ∧ _) (fun ⟨h, _⟩ => hj (congrArg Fin.val (recvCell_inj h).2)), Nat.add_zero]
        by_cases h' : 6 - n ≤ k.val
        · rw [if_pos ⟨rfl, h'⟩, if_pos ⟨rfl, by omega⟩]
        · rw [if_neg (fun h => h' h.2), if_neg (fun h => by have := h.2; omega)]
    · rw [if_neg (fun h' => h h'.1), if_neg (fun h' => h (recvCell_inj h'.1).1.symm), if_neg (fun h' => h h'.1)]

theorem tally_bar (d c : Dev nD) : tallyAt (barCell d) () 1 (barCell c) () = if d = c then 1 else 0 := by
  rw [tallyAt_apply]
  by_cases h : d = c
  · subst h; rw [if_pos ⟨rfl, rfl⟩, if_pos rfl]
  · rw [if_neg (fun h' => h (congrArg (fun g : GSem nD τ sig => g.1.1) h'.1).symm), if_neg h]

theorem owed_bar (d c : Dev nD) : O₀ d (barCell c) () = (if nxt d = c then 1 else 0) + (if prv d = c then 1 else 0) := by
  have e : O₀ d (barCell c) () = owedN d 6 (barCell c) () + tallyAt (barCell (nxt d)) () 1 (barCell c) () + tallyAt (barCell (prv d)) () 1 (barCell c) () := rfl
  rw [e, owedN_bar, tally_bar, tally_bar, Nat.zero_add]

theorem owed_recv (d c : Dev nD) (k : Fin 6) : O₀ d (recvCell c k) () = if nxt d = c then N else 0 := by
  have h0 (b : Dev nD) : tallyAt (barCell b) () 1 (recvCell c k) () = 0 := by
    rw [tallyAt_apply, if_neg]
    exact fun h => xsem_ne_bar (.inr k) (congrArg Prod.snd h.1)
  have e : O₀ d (recvCell c k) () = owedN d 6 (recvCell c k) () + tallyAt (barCell (nxt d)) () 1 (recvCell c k) () + tallyAt (barCell (prv d)) () 1 (recvCell c k) () := rfl
  rw [e, h0, h0, owedN_recv d c k 6 (le_refl 6), Nat.add_zero]
  by_cases h : nxt d = c
  · rw [if_pos ⟨h, by omega⟩, if_pos h]
  · rw [if_neg (fun h' => h h'.1), if_neg h]

theorem sum_nxt (c : Dev nD) (n : ℕ) : (∑ d : Dev nD, if nxt d = c then n else 0) = n := by
  rw [Finset.sum_eq_single (prv c)]
  · rw [if_pos (nxt_prv c)]
  · intro d _ hd
    rw [if_neg (fun h => hd (by rw [← h, prv_nxt]))]
  · exact fun h => absurd (Finset.mem_univ _) h
theorem sum_prv (c : Dev nD) (n : ℕ) : (∑ d : Dev nD, if prv d = c then n else 0) = n := by
  rw [Finset.sum_eq_single (nxt c)]
  · rw [if_pos (prv_nxt c)]
  · intro d _ hd
    rw [if_neg (fun h => hd (by rw [← h, nxt_prv]))]
  · exact fun h => absurd (Finset.mem_univ _) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, sum_nxt, sum_prv]
theorem launch_recv (c : Dev nD) (k : Fin 6) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, sum_nxt]

/-- The receive semaphores among all semaphores. -/
def recvEmb : Fin 6 ↪ SemLoc sig := ⟨fun k => .dma (recvS k), by decide⟩

theorem credits_intro (c : Dev nD) : (Pipeline.launchCred O₀ c : sProp 𝕄) ⊢ credits c := by
  unfold Pipeline.launchCred credits
  rw [bigSep_univ_at _ (SemLoc.reg barS), launch_bar]
  refine sep_mono_right ?_
  refine (BI.bigSep_subset (t := Finset.univ.map recvEmb) ?_).trans ?_
  · intro sm h
    obtain ⟨k, -, rfl⟩ := Finset.mem_map.mp h
    exact Finset.mem_erase.mpr ⟨xsem_ne_bar (.inr k), Finset.mem_univ _⟩
  · rw [bigSep_map]
    exact Entails.of_eq (bigSep_congr fun k _ => congrArg cred (launch_recv c k))

end Cert.KernelIdeal.Run

end
-- ==== Proof.Main.lean ====
/- The run of the whole program on all devices. -/
module

public import proofs.«01_k».proof.Proof.Ghost

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

/-- Each later stretch of host operations starts from what the one before left. -/
def W₁ (c : Dev nD) : Valuation τ sig (Elt F) := StableHlo.after hostOps1 (V₂ m c)
def W₂ (c : Dev nD) : Valuation τ sig (Elt F) := StableHlo.after hostOps1_1 (W₁ m c)
def W₃ (c : Dev nD) : Valuation τ sig (Elt F) := StableHlo.after hostOps1_2 (W₂ m c)
def W₄ (c : Dev nD) : Valuation τ sig (Elt F) := StableHlo.after hostOps1_3 (W₃ m c)
/-- The buffers at the end. -/
def Wₙ (c : Dev nD) : Valuation τ sig (Elt F) := StableHlo.after hostOps1_4 (W₄ m c)

/-- A stretch of host operations over all unscoped buffers. -/
def line (ops : List (HloOp τ sig (Elt F))) (hs : ops.Forall fun op => op.bufs ⊆ StableHlo.tcRefs τ sig) (hf : ops.Forall fun op => op.fresh = ∅)
    (W : Dev nD → Valuation τ sig (Elt F)) (R : Dev nD → sProp 𝕄) :
    Pipeline.HostSeg (Name := ℕ) (U := UU) (pcfgs (F := F)) (defs₀ (F := F)) 𝒱₀ L lv :=
  Pipeline.HostSeg.ofOps _ _ _ _ _ (Pipeline.ucRefs τ sig) ops
    (fun op h => Pipeline.sub_ucRefs op (List.forall_iff_forall_mem.mp hs op h)) (fun op h => List.forall_iff_forall_mem.mp hf op h) W R

/-- @main: the product, the kernel, the quantization. -/
def segs : List (Pipeline.Seg (pcfgs (F := F)) adm (pdats m) () (defs₀ (F := F)) 𝒱₀ L lv) :=
  [.host (line hostOps0 hostOps0_sub hostOps0_fresh (fun c b => m (c, b)) (rides m)), .region (reg m),
    .host (line hostOps1 hostOps1_sub hostOps1_fresh (V₂ m) rides'), .host (line hostOps1_1 hostOps1_1_sub hostOps1_1_fresh (W₁ m) rides'),
    .host (line hostOps1_2 hostOps1_2_sub hostOps1_2_fresh (W₂ m) rides'), .host (line hostOps1_3 hostOps1_3_sub hostOps1_3_fresh (W₃ m) rides'),
    .host (line hostOps1_4 hostOps1_4_sub hostOps1_4_fresh (W₄ m) rides')]

theorem main_eq (c : Dev nD) : main (F := F) c = Pipeline.Seg.run (segs m) := by
  rw [main_chain, Pipeline.Seg.run_eq_chain]; rfl

/-! ## The start -/

/-- Two families of resources, one per device, put together and taken apart. -/
theorem put {Φ Ψ : Dev nD → sProp 𝕄} : iprop(bigSep Finset.univ Φ ∗ bigSep Finset.univ Ψ) ⊢ bigSep Finset.univ fun c => iprop(Φ c ∗ Ψ c) :=
  Entails.of_eq (bigSep_sep' ..).symm
theorem part {Φ Ψ : Dev nD → sProp 𝕄} : (bigSep Finset.univ fun c => iprop(Φ c ∗ Ψ c)) ⊢ iprop(bigSep Finset.univ Φ ∗ bigSep Finset.univ Ψ) :=
  Entails.of_eq (bigSep_sep' ..)

/-- What the run starts with beside the memory: the regions' part (there are no staging cells) and the protocol's. -/
def u₀ : UU :=
  (initOf (Pipeline.cells (Pipeline.pin (pcfgs (F := F)) adm) cellOf_inj) (Pipeline.launchToks (Pipeline.pin (pcfgs (F := F)) adm) cellOf_inj),
    (launchOf barCells xCells allToks, 1))

/-- The protocol's part, whole. -/
def fund : sProp 𝕄 := BI.own (ER (launchOf barCells xCells allToks))

theorem u₀_split : (ownU (u₀ (F := F)) : sProp 𝕄) ⊢ iprop(BI.own (EP (initOf (Pipeline.cells (Pipeline.pin (pcfgs (F := F)) adm) cellOf_inj)
    (Pipeline.launchToks (Pipeline.pin (pcfgs (F := F)) adm) cellOf_inj))) ∗ fund) :=
  BI.own_op_elim ((uEmb (nD := nD) (τ := τ) (sig := sig) (Ix := Unit) (Val := Elt F) (Name := ℕ) (U := UU) (Lvl := ℕ)).toEmb.op_of_mem
    (Prod.mk_mem_op (URA.mem_op_one _) (URA.mem_one_op (launchOf barCells xCells allToks, (1 : Counters)))))

/-- A resource parked on device 0. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- A device's state at the start; -/
def start (c : Dev nD) : sProp 𝕄 := iprop(StableHlo.held (c : Thread nD τ) (Pipeline.ucRefs τ sig) (fun b => m (c, b)) ∗ rides m c)
/-- and at the end. -/
def finish (c : Dev nD) : sProp 𝕄 := iprop(StableHlo.held (c : Thread nD τ) (Pipeline.ucRefs τ sig) (Wₙ m c) ∗ semVal (barCell c) 0)

/-- What of a device's launch holdings is not the protocol's. -/
def plain (c : Dev nD) : sProp 𝕄 :=
  iprop(StableHlo.held (c : Thread nD τ) (Pipeline.ucRefs τ sig) (fun b => m (c, b)) ∗ owes (c : Thread nD τ) (O₀ c) ∅ ∗ ∃ r, prngReg c r)

theorem start_intro (κ : GSem nD τ sig → ℕ) (c : Dev nD) : iprop(records m κ ∗ ((dealt c ∗ credits c) ∗ plain m c)) ⊢ start m c := by
  unfold plain start rides
  iintro ⟨#HR, Hd, Hh, HO, Hp⟩
  isplitl [Hh]; · iexact Hh
  isplitr [HO]
  · isplitl [Hd]
    · iapply (kept_intro m κ c)
      isplitr; · iexact HR
      iexact Hd
    iexact Hp
  · iexists ∅; iexact HO

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- One device's launch holdings, sorted. -/
theorem sort_one (X : sProp 𝕄) (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parked X c)
    ⊢ (iprop((credits c ∗ plain m c) ∗ (semVal (barCell c) 0 ∗ parked X c)) : sProp 𝕄) := by
  rw [show unscopedBufs c (fun b => m ((c : Thread nD τ).loc b)) = StableHlo.held (c : Thread nD τ) (Pipeline.ucRefs τ sig) (fun b => m (c, b)) from
    Pipeline.unscopedBufs_held c (fun b => m (c, b)), sems_eq]
  unfold plain
  iintro ⟨Hh, Hs, HO, Hc, Hp, HX⟩
  ihave Hc := (credits_intro (F := F) c) $$ Hc
  isplitr [Hs HX]
  · isplitl [Hc]; · iexact Hc
    isplitl [Hh]; · iexact Hh
    isplitl [HO]; · iexact HO
    iexists (ρ c); iexact Hp
  isplitl [Hs] <;> iassumption

/-- The start of all devices. -/
theorem begin_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked fund c)) ∗ levAts L lv)
      ⊢ (|={Set.univ}=> bigSep Finset.univ (start m) : sProp 𝕄) := by
  have hsort : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked fund c))
      ⊢ (bigSep Finset.univ fun c : Dev nD => iprop((credits c ∗ plain m c) ∗ (semVal (barCell c) 0 ∗ parked fund c)) : sProp 𝕄) :=
    bigSep_mono fun c _ => sort_one m ρ fund c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep xCells (fun g => (openTok ER g : sProp 𝕄))
      ⊢ bigSep Finset.univ (fun c : Dev nD => iprop((bigSep Finset.univ fun k => openTok ER (sendCell c k)) ∗ bigSep Finset.univ fun k => openTok ER (recvCell c k))) :=
    Entails.of_eq (by
      rw [bigSep_map, bigSep_univ_prod]
      exact bigSep_congr fun c _ => by rw [BI.bigSep_univ_sum]; rfl)
  iintro ⟨H, -⟩
  ihave H := hsort $$ H
  ihave H := part $$ H; icases H with ⟨HB, H⟩
  ihave HB := part $$ HB; icases HB with ⟨HC, HB⟩
  ihave H := part $$ H; icases H with ⟨Hv, HG⟩
  ihave Hu := (show bigSep Finset.univ (parked fund) ⊢ (BI.own (ER (launchOf barCells xCells allToks)) : sProp 𝕄) from
    Entails.of_eq (bigSep_parked fund)) $$ HG
  imod (Rounds.fund_launch ER (rd (ins m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop((dealt c ∗ credits c) ∗ plain m c)) fun c _ => start_intro m κ c)
  isplitr
  · unfold records inv
    isplitr; · iexact Hinv
    iexact Hr
  iapply put
  isplitr [HB]
  · iapply put
    isplitr [HC]
    · unfold dealt
      iapply put; isplitl [Hat]; · iapply hat $$ Hat
      iapply put; isplitl [Hopen]; · iapply hopen $$ Hopen
      iapply (toks_around (F := F))
      iapply (Entails.of_eq (toks_eq (F := F))) $$ Htok
    iexact HC
  iexact HB

/-! ## The run -/

theorem uc_of (b : Ref sig .tc) (h : Proc.devRef (τ := τ) .tc b ∈ Pipeline.ucRefs τ sig) (c : Dev nD) (W : Valuation τ sig (Elt F)) :
    (StableHlo.held (c : Thread nD τ) (Pipeline.ucRefs τ sig) W : sProp 𝕄) ⊢ pt c b (W (Proc.devRef .tc b)) := by
  unfold StableHlo.held
  exact bigSep_elim h

theorem unscoped_eq : ∀ sm : SemLoc sig, sm.isScoped .tc = false → sm = .reg barS := by decide

/-- A buffer held at the end is what the final memory has there. -/
theorem read_end (b : Ref sig .tc) (h : Proc.devRef (τ := τ) .tc b ∈ Pipeline.ucRefs τ sig) (c : Dev nD) (s : Phys nD τ sig (Elt F)) :
    iprop(finish m c ∗ SI s) ⊢ (⌜s.mem.mem ((c : Thread nD τ).loc b) = Wₙ m c (Proc.devRef .tc b)⌝ : sProp 𝕄) := by
  unfold finish
  iintro ⟨⟨Hh, -⟩, HSI⟩
  ihave Hb := (uc_of b h c (Wₙ m c)) $$ Hh
  icombine HSI Hb gives %hx
  ipureintro
  exact Buf.eq_of_forall_mem_univ hx

theorem read_bar (c : Dev nD) (s : Phys nD τ sig (Elt F)) : iprop(finish m c ∗ SI s) ⊢ (⌜s.mem.sem (barCell c) = 0⌝ : sProp 𝕄) := by
  unfold finish
  iintro ⟨⟨-, Hb⟩, HSI⟩
  icombine HSI Hb gives %hb
  ipureintro
  simpa using hb

/-- Both, for all buffers at once. -/
theorem read_all (c : Dev nD) (s : Phys nD τ sig (Elt F)) : iprop(finish m c ∗ SI s)
    ⊢ (⌜(∀ b : Ref sig .tc, Proc.devRef (τ := τ) .tc b ∈ Pipeline.ucRefs τ sig → s.mem.mem ((c : Thread nD τ).loc b) = Wₙ m c (Proc.devRef .tc b))
      ∧ s.mem.sem (barCell c) = 0⌝ : sProp 𝕄) :=
  fun x hx => ⟨fun b hb => read_end m b hb c s x hx, read_bar m c s x hx⟩

/-- A fact that follows from a resource, beside it. -/
theorem keep_pure {φ : Prop} {X : sProp 𝕄} (h : X ⊢ ⌜φ⌝) : X ⊢ iprop(⌜φ⌝ ∗ X) := persistent_entails_right h

/-- What the last segment leaves. -/
theorem to_finish (c : Dev nD) : iprop(StableHlo.held (c : Thread nD τ) (Pipeline.ucRefs τ sig) (Wₙ m c) ∗ rides' c)
    ⊢ (iprop(finish m c ∗ ∃ W, owes (c : Thread nD τ) (0 : CellTallies nD τ sig Unit) W) : sProp 𝕄) := by
  unfold finish rides'
  iintro ⟨Hh, Hb, HO⟩
  isplitr [HO]
  · isplitl [Hh] <;> iassumption
  iexact HO

set_option backward.isDefEq.respectTransparency.types false in
/-- From any memory with zero counters the program ends on all devices, with the buffers as computed above and every counter zero. -/
theorem run_main : θ_run defs (onTc (τ := τ) (main (F := F))) (s₀ m ρ)
    (fun r => (∀ c : Dev nD, ∀ b : Ref sig .tc, Proc.devRef (τ := τ) .tc b ∈ Pipeline.ucRefs τ sig →
        r.2.mem ((c : Thread nD τ).loc b) = Wₙ m c (Proc.devRef .tc b)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked fund) (u₀ := u₀)
    (hu₀ := by
      rw [bigSep_parked]
      iintro Hu
      imodintro
      iapply (u₀_split (F := F)); iexact Hu)
    (T₀ := start m) (Tₙ := finish m)
    (hch := by
      refine ⟨fun c => .rfl, fun c => reg_pre m c, fun c => reg_post m c, fun c => .rfl, fun c => .rfl, fun c => .rfl, fun c => .rfl, fun c => ?_⟩
      exact to_finish m c)
    (hinit := begin_all m ρ)
    (QY := fun c s => (∀ b : Ref sig .tc, Proc.devRef (τ := τ) .tc b ∈ Pipeline.ucRefs τ sig → s.mem ((c : Thread nD τ).loc b) = Wₙ m c (Proc.devRef .tc b))
      ∧ s.sem (barCell c) = 0)
    (hfin := fun c s => (keep_pure (read_all m c s)).trans (by
      iintro ⟨%h, -, HSI⟩
      imodintro
      isplitr; · ipureintro; exact h
      iexact HSI))
    (hQ := fun s h hs => ⟨fun c => (h c).1,
      sem_eq_zero hs fun c sm hsm => by
        obtain rfl := unscoped_eq sm hsm
        exact (h c).2⟩)

end Cert.KernelIdeal.Run

end
-- ==== Proof.Ends.lean ====
/- The run's outcome read at the arguments and at the result. -/
module

public import proofs.«01_k».proof.Proof.Main

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The scale: the largest magnitude of the array over 127. -/
def scaleOf (y : (⟨S4096x8192, .f32⟩ : BufTy).Contents (Elt F)) : (⟨S_, .f32⟩ : BufTy).Contents (Elt F) :=
  Host.divf (Host.reduce FloatOps.maximumf (Host.absf y) (constant S_ .f32 0xFF800000#32) reducesTo_S4096x8192_S_d0_1 h_S_) (constant S_ .f32 0x42FE0000#32)

/-- A scalar all over the array. -/
def fill (s : (⟨S_, .f32⟩ : BufTy).Contents (Elt F)) : (⟨S4096x8192, .f32⟩ : BufTy).Contents (Elt F) :=
  broadcastInDim S4096x8192 ![] bcast_S_S4096x8192 s

/-- The array over the scale, rounded and clipped to ±127, times the scale. -/
def quant (y : (⟨S4096x8192, .f32⟩ : BufTy).Contents (Elt F)) : (⟨S4096x8192, .f32⟩ : BufTy).Contents (Elt F) :=
  mulf (minimumf (fill (id (constant S_ .f32 0x42FE0000#32)))
    (maximumf (fill (id (constant S_ .f32 0xC2FE0000#32))) (Host.roundeven (Host.divf y (fill (scaleOf y)))))) (fill (scaleOf y))

/-- The host operations after the kernel in one row. -/
theorem Wₙ_eq (c : Dev nD) : Wₙ m c = StableHlo.after (List.flatten [hostOps1, hostOps1_1, hostOps1_2, hostOps1_3, hostOps1_4]) (V₂ m c) := by
  unfold Wₙ W₄ W₃ W₂ W₁
  simp only [List.flatten_cons, List.flatten_nil, List.append_nil, StableHlo.after_append]

/-- No operation writes the first argument; -/
theorem Wₙ_arg0 (c : Dev nD) : Wₙ m c (Proc.devRef .tc main_arg0) = m ((c : Thread nD τ).loc main_arg0) := by
  rw [Wₙ_eq, StableHlo.after_of_forall_not_mem (b := Proc.devRef .tc main_arg0) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide)))]
  exact (V₂_rest m c _ (by decide)).trans (V_main_arg0 m c)

/-- nor the second. -/
theorem Wₙ_arg1 (c : Dev nD) : Wₙ m c (Proc.devRef .tc main_arg1) = m ((c : Thread nD τ).loc main_arg1) := by
  rw [Wₙ_eq, StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide)))]
  exact (V₂_rest m c _ (by decide)).trans (V_main_arg1 m c)

/-- The result is the quantization of the kernel's result. -/
theorem Wₙ_v13 (c : Dev nD) : Wₙ m c (Proc.devRef .tc main_v13) = quant (extf .f32 (total (ins m)) bitsLt_bf16_f32) := by
  rw [← V₂_v3_0 m c]
  unfold Wₙ W₄ W₃ W₂ W₁ quant scaleOf fill
  generalize V₂ m c = V
  simp only [hostOps1, hostOps1_1, hostOps1_2, hostOps1_3, hostOps1_4, StableHlo.TRef.binary, StableHlo.TRef.unary, StableHlo.TRef.toBuf,
    StableHlo.TRef.ofBuf, cast_eq]
  after_results

/-- What the kernel is given: the device's partial product, narrowed. -/
theorem ins_eq (c : Dev nD) : ins m c = truncf .bf16 (Host.dotGeneral dot_S4096x1024_S1024x8192_S4096x8192_1_0_0_1_n_n none
    (m ((c : Thread nD τ).loc main_arg0)) (m ((c : Thread nD τ).loc main_arg1))) bitsLt_bf16_f32 := by
  unfold ins
  show StableHlo.after (List.flatten [hostOps0]) (fun b => m (c, b)) (Proc.devRef .tc main_v2) = _
  simp only [hostOps0, List.flatten_cons, List.flatten_nil, List.append_nil]
  after_results

/-- The run of the program from any memory with zero counters: all devices end, the arguments unchanged, each result the quantization of the
    kernel's result, every counter zero. -/
theorem run_ends : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v13) = quant (extf .f32 (total (ins m)) bitsLt_bf16_f32)) ∧ r.2.sem = fun _ => 0) :=
  (θ_run defs _ _).mono (fun _ h => ⟨fun c => ⟨(h.1 c main_arg0 (by decide)).trans (Wₙ_arg0 m c), (h.1 c main_arg1 (by decide)).trans (Wₙ_arg1 m c),
    (h.1 c main_v13 (by decide)).trans (Wₙ_v13 m c)⟩, h.2⟩) (run_main m ρ)

end Cert.KernelIdeal.Run

end
-- ==== Proof.Value.lean ====
/- The value of the result over exact numbers: the kernel sums the devices' products, which is the product of the whole arrays. -/
module

public import proofs.«01_k».proof.Proof.Ends
public import proofs.«01_k».proof.Proof.Gen.ReferenceIdeal.Run
public import Idealize.ShloMosaic.Lib.Pointwise
public import Idealize.ShloMosaic.Lib.Layout

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

/-! ## Sums -/

/-- A sum over 4096 entries is the sum over four runs of 1024. -/
theorem sum_runs {M : Type} [AddCommMonoid M] (f : Fin 4096 → M) :
    ∑ K, f K = ∑ d : Fin 4, ∑ k : Fin 1024, f ⟨d.val * 1024 + k.val, by have := d.isLt; have := k.isLt; omega⟩ := by
  rw [← Equiv.sum_comp (finProdFinEquiv : Fin 4 × Fin 1024 ≃ Fin (4 * 1024)) (fun K : Fin (4 * 1024) => f K), Fintype.sum_prod_type]
  refine Finset.sum_congr rfl fun d _ => Finset.sum_congr rfl fun k _ => congrArg f (Fin.ext ?_)
  show k.val + 1024 * d.val = d.val * 1024 + k.val
  omega

/-- Going around the ring to the left from `b` meets every device once. -/
theorem sum_around {M : Type} [AddCommMonoid M] (f : Dev nD → M) (b : Fin 4) :
    f (prv b) + (f (prv (prv b)) + (f (prv (prv (prv b))) + f (prv (prv (prv (prv b)))))) = ∑ d : Dev nD, f d := by
  have h : ∑ d : Dev nD, f d = f 0 + f 1 + f 2 + f 3 := Fin.sum_univ_four f
  rw [h]
  fin_cases b
  · show f 3 + (f 2 + (f 1 + f 0)) = _; ac_rfl
  · show f 0 + (f 3 + (f 2 + f 1)) = _; ac_rfl
  · show f 1 + (f 0 + (f 3 + f 2)) = _; ac_rfl
  · show f 2 + (f 1 + (f 0 + f 3)) = _; ac_rfl

/-! ## The kernel's result -/

/-- Over exact numbers the rounded sum is the sum. -/
theorem addRnd_apply {s : Shape} (a b : s.Idx → EReal) (x : s.Idx) : (addRnd (F := Ideal) a b : s.Idx → EReal) x = a x + b x := rfl

theorem sv_three (p : Ins Ideal) (c : Dev nD) (x : S1024x8192.Idx) : (sv p 3 c x : EReal)
    = blkOf (bk c 3) (p c) x + (blkOf (bk (prv c) 2) (p (prv c)) x
      + (blkOf (bk (prv (prv c)) 1) (p (prv (prv c))) x + blkOf (bk (prv (prv (prv c))) 0) (p (prv (prv (prv c)))) x)) := by
  rw [sv_acc p c 2 (by decide), sv_acc p (prv c) 1 (by decide), sv_acc p (prv (prv c)) 0 (by decide)]; rfl

/-- Block `b` of the result is the sum of the four devices' blocks `b`. -/
theorem sv_three_block (p : Ins Ideal) (b : Fin 4) (x : S1024x8192.Idx) : (sv p 3 (prv b) x : EReal) = ∑ d : Dev nD, (blkOf b (p d) x : EReal) := by
  rw [sv_three, ← sum_around (fun d => (blkOf b (p d) x : EReal)) b,
    show bk (prv b) 3 = b from by revert b; decide, show bk (prv (prv b)) 2 = b from by revert b; decide,
    show bk (prv (prv (prv b))) 1 = b from by revert b; decide, show bk (prv (prv (prv (prv b)))) 0 = b from by revert b; decide]

/-- The kernel's result is the sum of the four devices' arrays. -/
theorem total_apply (p : Ins Ideal) (i : S4096x8192.Idx) : (total p i : EReal) = ∑ d : Dev nD, (p d i : EReal) := by
  have h : total p = fun i => (∑ d : Dev nD, (p d i : EReal) : EReal) := blkOf_ext fun b => by
    rw [blkOf_total]
    funext x
    exact sv_three_block p b x
  exact congrFun h i

/-! ## The products -/

/-- A device's product at an index. -/
theorem part_apply (x : S4096x1024.Idx → EReal) (w : S1024x8192.Idx → EReal) (j : S4096x8192.Idx) :
    (Host.dotGeneral (F := Ideal) (φ₁ := .bf16) (φ₂ := .bf16) dot_S4096x1024_S1024x8192_S4096x8192_1_0_0_1_n_n none x w j : EReal)
      = ∑ k : Fin 1024, x (ix2 (j 0) k) * w (ix2 k (j 1)) := by
  pointwise

/-- The whole product at an index. -/
theorem whole_apply (x : Cert.ReferenceIdeal.S4096x4096.Idx → EReal) (w : Cert.ReferenceIdeal.S4096x8192.Idx → EReal) (j : S4096x8192.Idx) :
    (Host.dotGeneral (F := Ideal) (φ₁ := .bf16) (φ₂ := .bf16) Cert.ReferenceIdeal.dot_S4096x4096_S4096x8192_S4096x8192_1_0_0_1_n_n none x w j : EReal)
      = ∑ k : Fin 4096, x (ix2 (j 0) k) * w (ix2 k (j 1)) := by
  pointwise

/-- The sum of the devices' products, of column blocks by row blocks, is the whole product. -/
theorem total_eq (m : (ℓ : Loc nD τ sig) → Buf (Elt Ideal) ℓ)
    (x : Cert.ReferenceIdeal.S4096x4096.Idx → EReal) (w : Cert.ReferenceIdeal.S4096x8192.Idx → EReal)
    (hx : ∀ c : Dev nD, m ((c : Thread nD τ).loc main_arg0) = Layout.block ⟨2, ![4096, 1024]⟩ ⟨2, ![4096, 4096]⟩ 1 4 c x)
    (hw : ∀ c : Dev nD, m ((c : Thread nD τ).loc main_arg1) = Layout.block ⟨2, ![1024, 8192]⟩ ⟨2, ![4096, 8192]⟩ 0 4 c w) :
    (extf .f32 (total (ins m)) bitsLt_bf16_f32 : FVec Ideal S4096x8192 .f32)
      = Host.dotGeneral (F := Ideal) (φ₁ := .bf16) (φ₂ := .bf16) Cert.ReferenceIdeal.dot_S4096x4096_S4096x8192_S4096x8192_1_0_0_1_n_n none x w := by
  funext j
  refine (total_apply (ins m) j).trans ?_
  rw [whole_apply, sum_runs]
  refine Finset.sum_congr rfl fun d _ => ?_
  rw [ins_eq]
  refine (part_apply _ _ j).trans (Finset.sum_congr rfl fun k _ => ?_)
  rw [hx, hw, Layout.block_apply, Layout.block_apply]
  have hK : d.val * 1024 + k.val < 4096 := by have h : d.val < 4 := d.isLt; have := k.isLt; omega
  have e0 : ∀ h, Layout.Tiles.idx (S := ⟨2, ![4096, 1024]⟩) (T := ⟨2, ![4096, 4096]⟩) (a := 1) (k := 4) h d (ix2 (j 0) k)
      = ix2 (j 0) (⟨d.val * 1024 + k.val, hK⟩ : Fin 4096) := fun h => by
    funext a; fin_cases a <;> exact Fin.ext rfl
  have e1 : ∀ h, Layout.Tiles.idx (S := ⟨2, ![1024, 8192]⟩) (T := ⟨2, ![4096, 8192]⟩) (a := 0) (k := 4) h d (ix2 k (j 1))
      = ix2 (⟨d.val * 1024 + k.val, hK⟩ : Fin 4096) (j 1) := fun h => by
    funext a; fin_cases a <;> exact Fin.ext rfl
  rw [e0, e1]
  rfl

end Cert.KernelIdeal.Run

end
-- ==== Proof.lean ====
/- The proof of the certificate's claim: the kernel over bit-exact and over exact numbers and the reference each run to an end with their arguments
   unchanged and every counter zero, and over exact numbers every device's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Cert.KernelIdeal.Run

/-- The kernel over bit-exact numbers; its text is that of the kernel over exact ones, whose run is stated for any numbers. -/
theorem frame_kernel : Cert.quiescent_Kernel := fun m ρ _ =>
  (θ_run Cert.KernelIdeal.defs _ _).mono (fun _ h => ⟨fun c => ⟨(h.1 c).1, (h.1 c).2.1⟩, h.2⟩) (run_ends (F := Bits) m ρ)

/-- The kernel over exact numbers. -/
theorem frame_ideal : Cert.quiescent_KernelIdeal := fun m ρ _ =>
  (θ_run Cert.KernelIdeal.defs _ _).mono (fun _ h => ⟨fun c => ⟨(h.1 c).1, (h.1 c).2.1⟩, h.2⟩) (run_ends (F := Ideal) m ρ)

/-- The reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the quantization of the whole product, which is the reference's result. -/
theorem value : Cert.algebraic_KernelIdeal_ReferenceIdeal := by
  intro m ρ m' ρ' _ h
  refine ⟨_, (θ_run Cert.KernelIdeal.defs _ _).mono (fun _ hr c => ⟨(hr.1 c).2.2.trans (congrArg quant (total_eq m _ _ (fun c => (h c).1) fun c => (h c).2)),
      (hr.1 c).1, (hr.1 c).2.1⟩) (run_ends (F := Ideal) m ρ),
    (θ_run Cert.ReferenceIdeal.defs _ _).mono (fun _ hr => ⟨(hr 0).1, (hr 0).2⟩) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, value⟩

end Cert.Proof

end
